-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 32768, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x256x1024 .bf16) (main_arg1 : FVec F S1024x1024 .bf16) (main_arg2 : FVec F S1x4096x8x128 .bf16) (main_arg3 : FVec F S1x4096x8x128 .bf16) (main_arg4 : FVec F S1024x1024 .bf16) : IVec S1x256x1024 1 × IVec S1024x1024 1 × IVec S1x4096x8x128 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x4096x8x128 .bf16 := Host.absf main_arg2
  let main_cst_1 : FVec F S_ .bf16 := constant S_ .bf16 0x7F80#16
  let main_v7 : FVec F S1x4096x8x128 .bf16 := broadcastInDim S1x4096x8x128 ![] bcast_S_S1x4096x8x128 main_cst_1
  let main_v8 : IVec S1x4096x8x128 1 := cmpf .olt main_v6 main_v7
  (main_v2, main_v5, main_v8)
-- ==== Pre_finite_scores_ReferenceIdeal.lean ====
abbrev S1x256x1024 : Shape := ⟨3, ![1, 256, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x32768x8x128 : S_.BroadcastsInDim S1x32768x8x128 (![] : Fin 0 → Fin S1x32768x8x128.rank)

variable [Facts]

def fn {F : FTy → Type} [FloatOps F] (main_arg0 : FVec F S1x256x1024 .bf16) (main_arg1 : FVec F S1024x1024 .bf16) (main_arg2 : FVec F S1x32768x8x128 .bf16) (main_arg3 : FVec F S1x32768x8x128 .bf16) (main_arg4 : FVec F S1024x1024 .bf16) : IVec S1x256x1024 1 × IVec S1024x1024 1 × IVec S1x32768x8x128 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1x32768x8x128 .bf16 := Host.absf main_arg2
  let main_cst_1 : FVec F S_ .bf16 := constant S_ .bf16 0x7F80#16
  let main_v7 : FVec F S1x32768x8x128 .bf16 := broadcastInDim S1x32768x8x128 ![] bcast_S_S1x32768x8x128 main_cst_1
  let main_v8 : IVec S1x32768x8x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1024 : Shape := ⟨2, ![256, 1024]⟩
abbrev S3x256x1024 : Shape := ⟨3, ![3, 256, 1024]⟩
abbrev S8x256 : Shape := ⟨2, ![8, 256]⟩
abbrev S3x8x256 : Shape := ⟨3, ![3, 8, 256]⟩
abbrev S3 : Shape := ⟨1, ![3]⟩
abbrev S_ : Shape := ⟨0, ![]⟩
abbrev S256x8x128 : Shape := ⟨3, ![256, 8, 128]⟩
abbrev S256x4096 : Shape := ⟨2, ![256, 4096]⟩
abbrev S256x1x128 : Shape := ⟨3, ![256, 1, 128]⟩
abbrev S256x128 : Shape := ⟨2, ![256, 128]⟩
abbrev S1x4096x1x128 : Shape := ⟨4, ![1, 4096, 1, 128]⟩
abbrev S4096x128 : Shape := ⟨2, ![4096, 128]⟩
abbrev S256 : Shape := ⟨1, ![256]⟩
abbrev S1x256 : Shape := ⟨2, ![1, 256]⟩
abbrev S1 : Shape := ⟨1, ![1]⟩
abbrev S1x8x256 : Shape := ⟨3, ![1, 8, 256]⟩
abbrev S256x8 : Shape := ⟨2, ![256, 8]⟩
abbrev S256x8x1 : Shape := ⟨3, ![256, 8, 1]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x4096x8x128, .bf16⟩
  | .hbm, ⟨3, _⟩ => ⟨S1x4096x8x128, .bf16⟩
  | .hbm, ⟨4, _⟩ => ⟨S1024x1024, .bf16⟩
  | .hbm, ⟨5, _⟩ => ⟨S1x256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1x4096x8x128, .bf16⟩
  | .local _ .vmem, ⟨3, _⟩ => ⟨S1x4096x8x128, .bf16⟩
  | .local _ .vmem, ⟨4, _⟩ => ⟨S1024x1024, .bf16⟩
  | .local _ .vmem, ⟨5, _⟩ => ⟨S1x256x1024, .f32⟩
  | .local _ .vmem, ⟨6, _⟩ => ⟨S256x1024, .bf16⟩
  | .local _ .vmem, ⟨7, _⟩ => ⟨S3x256x1024, .bf16⟩
  | .local _ .vmem, ⟨8, _⟩ => ⟨S8x256, .f32⟩
  | .local _ .vmem, ⟨9, _⟩ => ⟨S3x8x256, .f32⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_122 : BitVec 32 := 1#32
  let v203 : BitVec 32 := Scalar.xori v2 c1_i32_122
  let c1_i32_130 : BitVec 32 := 1#32
  let v211 : BitVec 32 := Scalar.muli v203 c1_i32_130
  let v212 : BitVec 32 := Scalar.addi c0_i32_131 v211
  v212.toNat
def k0_dev5 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_122 : BitVec 32 := 1#32
  let v203 : BitVec 32 := Scalar.xori v2 c1_i32_122
  let c1_i32_137 : BitVec 32 := 1#32
  let v219 : BitVec 32 := Scalar.muli v203 c1_i32_137
  let v220 : BitVec 32 := Scalar.addi c0_i32_138 v219
  v220.toNat
def k0_dev6 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_173 : BitVec 32 := 2#32
  let v254 : BitVec 32 := Scalar.xori v2 c2_i32_173
  let c1_i32_181 : BitVec 32 := 1#32
  let v262 : BitVec 32 := Scalar.muli v254 c1_i32_181
  let v263 : BitVec 32 := Scalar.addi c0_i32_182 v262
  v263.toNat
def k0_dev7 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_173 : BitVec 32 := 2#32
  let v254 : BitVec 32 := Scalar.xori v2 c2_i32_173
  let c1_i32_188 : BitVec 32 := 1#32
  let v270 : BitVec 32 := Scalar.muli v254 c1_i32_188
  let v271 : BitVec 32 := Scalar.addi c0_i32_189 v270
  v271.toNat
def k0_dev8 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_224 : BitVec 32 := 4#32
  let v305 : BitVec 32 := Scalar.xori v2 c4_i32_224
  let c1_i32_232 : BitVec 32 := 1#32
  let v313 : BitVec 32 := Scalar.muli v305 c1_i32_232
  let v314 : BitVec 32 := Scalar.addi c0_i32_233 v313
  v314.toNat
def k0_dev9 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_224 : BitVec 32 := 4#32
  let v305 : BitVec 32 := Scalar.xori v2 c4_i32_224
  let c1_i32_239 : BitVec 32 := 1#32
  let v321 : BitVec 32 := Scalar.muli v305 c1_i32_239
  let v322 : BitVec 32 := Scalar.addi c0_i32_240 v321
  v322.toNat
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x256x1024 : Shape := ⟨3, ![1, 256, 1024]⟩
abbrev S1024x1024 : Shape := ⟨2, ![1024, 1024]⟩
abbrev S1x32768x8x128 : Shape := ⟨4, ![1, 32768, 8, 128]⟩
abbrev S1x256x8x128 : Shape := ⟨4, ![1, 256, 8, 128]⟩
abbrev S256 : Shape := ⟨1, ![256]⟩
abbrev S_ : Shape := ⟨0, ![]⟩
abbrev S256x1 : Shape := ⟨2, ![256, 1]⟩
abbrev S32768 : Shape := ⟨1, ![32768]⟩
abbrev S1x32768 : Shape := ⟨2, ![1, 32768]⟩
abbrev S256x32768 : Shape := ⟨2, ![256, 32768]⟩
abbrev S1x8x256x32768 : Shape := ⟨4, ![1, 8, 256, 32768]⟩
abbrev S1x1x256x32768 : Shape := ⟨4, ![1, 1, 256, 32768]⟩
abbrev S1x8x256 : Shape := ⟨3, ![1, 8, 256]⟩
abbrev S1x8x256x1 : Shape := ⟨4, ![1, 8, 256, 1]⟩
abbrev S1x1x256x1 : Shape := ⟨4, ![1, 1, 256, 1]⟩
abbrev S1x8x128x256 : Shape := ⟨4, ![1, 8, 128, 256]⟩

abbrev nBuf : Space → Nat
  | .hbm => 140
  | .vmem => 0
  | .smem => 0
  | _ => 0

abbrev hbmTy0_0 (i : Nat) : BufTy := match i % 128 with
  | 0 => ⟨S1x256x1024, .bf16⟩
  | 1 => ⟨S1024x1024, .bf16⟩
  | 2 => ⟨S1x32768x8x128, .bf16⟩
  | 3 => ⟨S1x32768x8x128, .bf16⟩
  | 4 => ⟨S1024x1024, .bf16⟩
  | 5 => ⟨S1x256x1024, .f32⟩
  | 6 => ⟨S1x256x1024, .bf16⟩
  | 7 => ⟨S1x256x8x128, .bf16⟩
  | 8 => ⟨S256, .i32⟩
  | 9 => ⟨S_, .i32⟩
  | 10 => ⟨S_, .i32⟩
  | 11 => ⟨S256, .i32⟩
  | 12 => ⟨S256, .i32⟩
  | 13 => ⟨S256, .i32⟩
  | 14 => ⟨S_, .i32⟩
  | 15 => ⟨S256, .i32⟩
  | 16 => ⟨S256, .i1⟩
  | 17 => ⟨S256, .i32⟩
  | 18 => ⟨S256, .i32⟩
  | 19 => ⟨S_, .i32⟩
  | 20 => ⟨S256, .i32⟩
  | 21 => ⟨S256, .i1⟩
  | 22 => ⟨S256, .i1⟩
  | 23 => ⟨S_, .i32⟩
  | 24 => ⟨S256, .i32⟩
  | 25 => ⟨S256, .i32⟩
  | 26 => ⟨S256, .i32⟩
  | 27 => ⟨S256x1, .i32⟩
  | 28 => ⟨S32768, .i32⟩
  | 29 => ⟨S_, .i32⟩
  | 30 => ⟨S_, .i32⟩
  | 31 => ⟨S32768, .i32⟩
  | 32 => ⟨S32768, .i32⟩
  | 33 => ⟨S32768, .i32⟩
  | 34 => ⟨S_, .i32⟩
  | 35 => ⟨S32768, .i32⟩
  | 36 => ⟨S32768, .i1⟩
  | 37 => ⟨S32768, .i32⟩
  | 38 => ⟨S32768, .i32⟩
  | 39 => ⟨S_, .i32⟩
  | 40 => ⟨S32768, .i32⟩
  | 41 => ⟨S32768, .i1⟩
  | 42 => ⟨S32768, .i1⟩
  | 43 => ⟨S_, .i32⟩
  | 44 => ⟨S32768, .i32⟩
  | 45 => ⟨S32768, .i32⟩
  | 46 => ⟨S32768, .i32⟩
  | 47 => ⟨S1x32768, .i32⟩
  | 48 => ⟨S256x32768, .i32⟩
  | 49 => ⟨S256x32768, .i32⟩
  | 50 => ⟨S256x32768, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x32768, .i32⟩
  | 58 => ⟨S1x32768, .i32⟩
  | 59 => ⟨S_, .i32⟩
  | 60 => ⟨S1x32768, .i32⟩
  | 61 => ⟨S1x32768, .i1⟩
  | 62 => ⟨S_, .i32⟩
  | 63 => ⟨S1x32768, .i32⟩
  | 64 => ⟨S1x32768, .i1⟩
  | 65 => ⟨S_, .i32⟩
  | 66 => ⟨S_, .i1⟩
  | 67 => ⟨S1x32768, .i1⟩
  | 68 => ⟨S1x32768, .i1⟩
  | 69 => ⟨S1x32768, .i1⟩
  | 70 => ⟨S1x32768, .i32⟩
  | 71 => ⟨S1x32768, .i32⟩
  | 72 => ⟨S1x32768, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S256x1, .i32⟩
  | 80 => ⟨S256x1, .i32⟩
  | 81 => ⟨S_, .i32⟩
  | 82 => ⟨S256x1, .i32⟩
  | 83 => ⟨S256x1, .i1⟩
  | 84 => ⟨S_, .i32⟩
  | 85 => ⟨S256x1, .i32⟩
  | 86 => ⟨S256x1, .i1⟩
  | 87 => ⟨S_, .i32⟩
  | 88 => ⟨S_, .i1⟩
  | 89 => ⟨S256x1, .i1⟩
  | 90 => ⟨S256x1, .i1⟩
  | 91 => ⟨S256x1, .i1⟩
  | 92 => ⟨S256x1, .i32⟩
  | 93 => ⟨S256x1, .i32⟩
  | 94 => ⟨S256x1, .i32⟩
  | 95 => ⟨S256x32768, .i32⟩
  | 96 => ⟨S256x32768, .i32⟩
  | 97 => ⟨S256x32768, .i1⟩
  | 98 => ⟨S256x32768, .i1⟩
  | 99 => ⟨S1x8x256x32768, .f32⟩
  | 100 => ⟨S1x8x256x32768, .bf16⟩
  | 101 => ⟨S1x8x256x32768, .f32⟩
  | 102 => ⟨S_, .f32⟩
  | 103 => ⟨S1x8x256x32768, .f32⟩
  | 104 => ⟨S1x8x256x32768, .f32⟩
  | 105 => ⟨S1x1x256x32768, .i1⟩
  | 106 => ⟨S_, .f32⟩
  | 107 => ⟨S_, .f32⟩
  | 108 => ⟨S1x8x256x32768, .i1⟩
  | 109 => ⟨S1x8x256x32768, .f32⟩
  | 110 => ⟨S1x8x256x32768, .f32⟩
  | 111 => ⟨S_, .f32⟩
  | 112 => ⟨S1x8x256, .f32⟩
  | 113 => ⟨S1x8x256x1, .f32⟩
  | 114 => ⟨S1x8x256x32768, .f32⟩
  | 115 => ⟨S1x8x256x32768, .f32⟩
  | 116 => ⟨S1x8x256x32768, .f32⟩
  | 117 => ⟨S_, .i1⟩
  | 118 => ⟨S256, .i1⟩
  | 119 => ⟨S1x1x256x1, .i1⟩
  | 120 => ⟨S_, .f32⟩
  | 121 => ⟨S1x8x256, .f32⟩
  | 122 => ⟨S1x8x256x1, .f32⟩
  | 123 => ⟨S_, .f32⟩
  | 124 => ⟨S_, .f32⟩
  | 125 => ⟨S1x8x256x1, .i1⟩
  | 126 => ⟨S1x8x256x1, .f32⟩
  | 127 => ⟨S1x8x256x1, .f32⟩
  | _ => ⟨S1x256x1024, .bf16⟩

abbrev hbmTy0_1 (i : Nat) : BufTy := match i % 128 with
  | 0 => ⟨S1x8x256x32768, .f32⟩
  | 1 => ⟨S1x8x256x32768, .f32⟩
  | 2 => ⟨S1x1x256x1, .i1⟩
  | 3 => ⟨S_, .f32⟩
  | 4 => ⟨S_, .f32⟩
  | 5 => ⟨S1x8x256x32768, .i1⟩
  | 6 => ⟨S1x8x256x32768, .f32⟩
  | 7 => ⟨S1x8x256x32768, .f32⟩
  | 8 => ⟨S1x8x128x256, .f32⟩
  | 9 => ⟨S1x256x8x128, .f32⟩
  | 10 => ⟨S1x256x1024, .f32⟩
  | 11 => ⟨S1x256x1024, .f32⟩
  | _ => ⟨S1x256x1024, .bf16⟩

abbrev hbmTy (i : Nat) : BufTy := match i / 128 with
  | 0 => hbmTy0_0 i
  | 1 => hbmTy0_1 i
  | _ => ⟨S1x256x1024, .bf16⟩

abbrev bufTy : (tb : Table) → Fin (tcTables nBuf tb) → BufTy
  | .hbm, ⟨i, _⟩ => hbmTy i
  | _, _ => ⟨S1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩

abbrev nD : Nat := 1
abbrev τ : Topo := Topo.v7x

variable {F : FTy → Type} [FloatOps F]
-- ==== Proof.Contents.lean ====
/-
  The devices, buffers and contents of the kernel's exchange, at any float values.

  Eight devices; at stage `s` a device exchanges with the one whose number differs from its own in bit `s`.
  Each device first adds up, over its own 4096 keys, one row of weights and one weighted row of values per head and
  query (`accO0`, `accL0`). At each of three stages it sends what it holds to its partner and adds what the partner
  sends (`accO1` … `accL3`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.Butterfly

open Cert.KernelIdeal Cert.KernelIdeal.Gen
open Idealize.ShloMosaic
open Idealize.ShloMosaic.TcCoe

/-! ## The devices -/

set_option backward.proofsInPublic true in
/-- The device a device exchanges with at stage `s`: its number with bit `s` flipped. -/
def peer (s : Fin 3) (c : Dev nD) : Dev nD :=
  ⟨(c.val ^^^ (2 ^ s.val)) % 8, Nat.mod_lt _ (by decide)⟩

theorem peer_peer (s : Fin 3) (c : Dev nD) : peer s (peer s c) = c := by revert s c; decide

/-- Exchanging with the partner of a stage pairs the devices. -/
def swap (s : Fin 3) : Dev nD ≃ Dev nD := ⟨peer s, peer s, peer_peer s, peer_peer s⟩

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 0 c := by revert c; decide
theorem dev6_eq (c : Dev nD) : (⟨k0_dev6 c, k0_dev6_lt c⟩ : Dev nD) = peer 1 c := by revert c; decide
theorem dev7_eq (c : Dev nD) : (⟨k0_dev7 c, k0_dev7_lt c⟩ : Dev nD) = peer 1 c := by revert c; decide
theorem dev8_eq (c : Dev nD) : (⟨k0_dev8 c, k0_dev8_lt c⟩ : Dev nD) = peer 2 c := by revert c; decide
theorem dev9_eq (c : Dev nD) : (⟨k0_dev9 c, k0_dev9_lt c⟩ : Dev nD) = peer 2 c := by revert c; decide

/-! ## The buffers -/

/-- What a device sends of its weighted values, and of its weights. -/
abbrev oM : Memref sig .tc .vmem S256x1024 .bf16 := Memref.whole cc0_scratch0
abbrev lM : Memref sig .tc .vmem S8x256 .f32 := Memref.whole cc0_scratch2
/-- The three landing slots for each. -/
abbrev orM : Memref sig .tc .vmem S3x256x1024 .bf16 := Memref.whole cc0_scratch1
abbrev lrM : Memref sig .tc .vmem S3x8x256 .f32 := Memref.whole cc0_scratch3

theorem inbO (s : Fin 3) : ∀ a, (![s.val, 0, 0] : Fin 3 → ℕ) a + S1x256x1024.size a ≤ S3x256x1024.size a := by
  revert s; decide
theorem inbL (s : Fin 3) : ∀ a, (![s.val, 0, 0] : Fin 3 → ℕ) a + S1x8x256.size a ≤ S3x8x256.size a := by
  revert s; decide

/-- Slot `s` of the landing buffers: as three-axis rectangles, -/
abbrev oRect (s : Fin 3) : Rect S3x256x1024 := Rect.unit (s := S3x256x1024) ![s.val, 0, 0] S1x256x1024.size (inbO s)
abbrev lRect (s : Fin 3) : Rect S3x8x256 := Rect.unit (s := S3x8x256) ![s.val, 0, 0] S1x8x256.size (inbL s)

/-- and as the two-axis buffers a transfer fills. -/
abbrev oSlot (s : Fin 3) : Memref sig .tc .vmem S256x1024 .bf16 :=
  (orM.slice (oRect s) (fun _ => rfl)).squeeze S256x1024 squeezes_S1x256x1024_S256x1024
abbrev lSlot (s : Fin 3) : Memref sig .tc .vmem S8x256 .f32 :=
  (lrM.slice (lRect s) (fun _ => rfl)).squeeze S8x256 squeezes_S1x8x256_S8x256

/-- The twelve transfer semaphores: three each for sending and landing values, then for sending and landing weights. -/
def xsem (k : Fin 12) : DmaSem sig := ⟨6 + k.val, by show 6 + k.val < 18; omega⟩

def oS (s : Fin 3) : Fin 12 := ⟨s.val, by omega⟩
def oR (s : Fin 3) : Fin 12 := ⟨3 + s.val, by omega⟩
def lS (s : Fin 3) : Fin 12 := ⟨6 + s.val, by omega⟩
def lR (s : Fin 3) : Fin 12 := ⟨9 + s.val, by omega⟩

/-- What one transfer credits, in each family. -/
abbrev NO : ℕ := oM.view.dmaCredit
abbrev NL : ℕ := lM.view.dmaCredit
theorem NO_pos : 0 < NO := View.dmaCredit_pos _ (by decide)
theorem NL_pos : 0 < NL := View.dmaCredit_pos _ (by decide)
theorem oSlot_credit (s : Fin 3) : (oSlot s).view.dmaCredit = NO := rfl
theorem lSlot_credit (s : Fin 3) : (lSlot s).view.dmaCredit = NL := rfl

theorem oSlot_set (s : Fin 3) : (oSlot s).view.set = (oRect s).set :=
  (View.set_reshape (v := (orM.slice (oRect s) (fun _ => rfl)).view) _).trans (View.set_slice_whole _ _)
theorem lSlot_set (s : Fin 3) : (lSlot s).view.set = (lRect s).set :=
  (View.set_reshape (v := (lrM.slice (lRect s) (fun _ => rfl)).view) _).trans (View.set_slice_whole _ _)

/-- The three slots share no element and make up the landing buffer. -/
theorem oSlot_disjoint (s s' : Fin 3) (h : s ≠ s') : Disjoint (oSlot s).view.set (oSlot s').view.set := by
  rw [oSlot_set, oSlot_set]
  exact Ring.lead_disjoint (s := S3x256x1024) (0 : Fin 3) 1 (fun s : Fin 3 => ![s.val, 0, 0]) S1x256x1024.size inbO
    (fun b => (Nat.one_mul _).symm) rfl s s' h
theorem lSlot_disjoint (s s' : Fin 3) (h : s ≠ s') : Disjoint (lSlot s).view.set (lSlot s').view.set := by
  rw [lSlot_set, lSlot_set]
  exact Ring.lead_disjoint (s := S3x8x256) (0 : Fin 3) 1 (fun s : Fin 3 => ![s.val, 0, 0]) S1x8x256.size inbL
    (fun b => (Nat.one_mul _).symm) rfl s s' h
theorem oSlot_cover : Finset.univ.biUnion (fun s : Fin 3 => (oRect s).set) = Finset.univ :=
  Ring.lead_cover (s := S3x256x1024) (0 : Fin 3) 1 (fun s : Fin 3 => ![s.val, 0, 0]) S1x256x1024.size inbO
    (fun b => (Nat.one_mul _).symm) (fun b a ha => by fin_cases a <;> first | exact absurd rfl ha | rfl) rfl
    (fun a ha => by fin_cases a <;> first | exact absurd rfl ha | rfl) rfl
theorem lSlot_cover : Finset.univ.biUnion (fun s : Fin 3 => (lRect s).set) = Finset.univ :=
  Ring.lead_cover (s := S3x8x256) (0 : Fin 3) 1 (fun s : Fin 3 => ![s.val, 0, 0]) S1x8x256.size inbL
    (fun b => (Nat.one_mul _).symm) (fun b a ha => by fin_cases a <;> first | exact absurd rfl ha | rfl) rfl
    (fun a ha => by fin_cases a <;> first | exact absurd rfl ha | rfl) rfl

/-! ## What a device computes -/

variable {F : FTy → Type} [FloatOps F] [Named F]

/-- A two-axis value as a load of a three-axis slot returns it. -/
def oLift (w : Vec F S256x1024 .bf16) : Vec F S1x256x1024 .bf16 :=
  fun i => w ((Shape.reshapeEquiv squeezes_S1x256x1024_S256x1024.numel_eq).symm i)
def lLift (w : Vec F S8x256 .f32) : Vec F S1x8x256 .f32 :=
  fun i => w ((Shape.reshapeEquiv squeezes_S1x8x256_S8x256.numel_eq).symm i)

/-- A load of slot `s` returns what the slot holds. -/
theorem read_oSlot (s : Fin 3) (f : (cc0_scratch1 : Ref sig .tc).ty.Contents (Elt F)) :
    orM.view.readAt (Elt F) (oRect s).toLoadRect f = oLift ((oSlot s).view.read (Elt F) f) := by
  funext i
  show (orM.view.slice (oRect s)).read (Elt F) f i
    = (orM.view.slice (oRect s)).read (Elt F) f (Shape.reshapeEquiv _ ((Shape.reshapeEquiv _).symm i))
  rw [Equiv.apply_symm_apply]
theorem read_lSlot (s : Fin 3) (f : (cc0_scratch3 : Ref sig .tc).ty.Contents (Elt F)) :
    lrM.view.readAt (Elt F) (lRect s).toLoadRect f = lLift ((lSlot s).view.read (Elt F) f) := by
  funext i
  show (lrM.view.slice (lRect s)).read (Elt F) f i
    = (lrM.view.slice (lRect s)).read (Elt F) f (Shape.reshapeEquiv _ ((Shape.reshapeEquiv _).symm i))
  rw [Equiv.apply_symm_apply]

/-- The keys, or values, of head `h` as a load of a device's block returns them. -/
abbrev kvRect (h : Fin 8) : Rect S1x4096x8x128 :=
  Rect.unit (s := S1x4096x8x128) ![0, 0, h.val, 0] S1x4096x1x128.size (by revert h; decide)
abbrev kM : Memref sig .tc .vmem S1x4096x8x128 .bf16 := Memref.whole cc0_stg2_0
abbrev vM : Memref sig .tc .vmem S1x4096x8x128 .bf16 := Memref.whole cc0_stg3_0
def kHead (k : (cc0_stg2_0 : Ref sig .tc).ty.Contents (Elt F)) (h : Fin 8) : Vec F S1x4096x1x128 .bf16 :=
  kM.view.readAt (Elt F) (kvRect h).toLoadRect k
def vHead (v : (cc0_stg3_0 : Ref sig .tc).ty.Contents (Elt F)) (h : Fin 8) : Vec F S1x4096x1x128 .bf16 :=
  vM.view.readAt (Elt F) (kvRect h).toLoadRect v

/-- The rows' and the columns' numbers, and the pairs of query and key that the block pattern keeps. -/
def rowNo : IVec S256x4096 32 := iota .tc S256x4096 32 [0] iota_S256x4096_d0_w32
def colNo : IVec S256x4096 32 := iota .tc S256x4096 32 [1] iota_S256x4096_d1_w32
def kept : IVec S256x4096 1 :=
  k0_pay8 rowNo (k0_pay5 colNo 64#32 k0_pay3 k0_pay4 0#32) 64#32 (k0_pay6 rowNo) (k0_pay7 rowNo)
    (Scalar.extui (Scalar.cmpi .sgt 64#32 0#32))

section Device

variable (x : Vec F S1x256x1024 .bf16) (wq : Vec F S1024x1024 .bf16)
  (k : (cc0_stg2_0 : Ref sig .tc).ty.Contents (Elt F)) (v : (cc0_stg3_0 : Ref sig .tc).ty.Contents (Elt F))

/-- The scaled queries. -/
def qry : FVec F S256x8x128 .bf16 := k0_pay2 x wq

/-- Per head: the weights summed over the device's keys, and the weighted values summed over them. -/
def lHead0 : FVec F S256 .f32 :=
  k0_pay10 (qry x wq) rowNo (k0_pay5 colNo 64#32 k0_pay3 k0_pay4 0#32) 64#32 (k0_pay6 rowNo) (k0_pay7 rowNo)
    (Scalar.extui (Scalar.cmpi .sgt 64#32 0#32)) (kHead k 0)
def oHead0 : FVec F S256x128 .f32 :=
  k0_pay11 (qry x wq) rowNo (k0_pay5 colNo 64#32 k0_pay3 k0_pay4 0#32) 64#32 (k0_pay6 rowNo) (k0_pay7 rowNo)
    (Scalar.extui (Scalar.cmpi .sgt 64#32 0#32)) (kHead k 0) (vHead v 0)
def wHead1 : FVec F S256x4096 .f32 :=
  k0_pay12 (qry x wq) rowNo (k0_pay5 colNo 64#32 k0_pay3 k0_pay4 0#32) 64#32 (k0_pay6 rowNo) (k0_pay7 rowNo)
    (Scalar.extui (Scalar.cmpi .sgt 64#32 0#32)) (kHead k 1)
def lHead1 : FVec F S256 .f32 :=
  k0_pay13 (qry x wq) rowNo (k0_pay5 colNo 64#32 k0_pay3 k0_pay4 0#32) 64#32 (k0_pay6 rowNo) (k0_pay7 rowNo)
    (Scalar.extui (Scalar.cmpi .sgt 64#32 0#32)) (kHead k 1)
def oHead1 : FVec F S256x128 .f32 := k0_pay14 (wHead1 x wq k) (vHead v 1)
def lHead2 : FVec F S256 .f32 := k0_pay16 (qry x wq) kept (kHead k 2)
def oHead2 : FVec F S256x128 .f32 := k0_pay17 (qry x wq) kept (kHead k 2) (vHead v 2)
def lHead3 : FVec F S256 .f32 := k0_pay19 (qry x wq) kept (kHead k 3)
def oHead3 : FVec F S256x128 .f32 := k0_pay20 (qry x wq) kept (kHead k 3) (vHead v 3)
def lHead4 : FVec F S256 .f32 := k0_pay23 kept (k0_pay21 (qry x wq)) (kHead k 4)
def oHead4 : FVec F S256x128 .f32 := k0_pay24 kept (k0_pay21 (qry x wq)) (kHead k 4) (vHead v 4)
def lHead5 : FVec F S256 .f32 := k0_pay26 (qry x wq) kept (kHead k 5)
def oHead5 : FVec F S256x128 .f32 := k0_pay27 (qry x wq) kept (kHead k 5) (vHead v 5)
def wHead6 : FVec F S256x4096 .f32 := k0_pay28 (qry x wq) kept (kHead k 6)

/-- The device's own sums: over its keys, per query, head and column; -/
def ownO : FVec F S256x1024 .f32 :=
  k0_pay31 (qry x wq) kept (oHead0 x wq k v) (oHead1 x wq k v) (oHead2 x wq k v) (oHead3 x wq k v) (oHead4 x wq k v)
    (oHead5 x wq k v) (wHead6 x wq k) (vHead v 6) (kHead k 7) (vHead v 7)
/-- what it sends of them first; -/
def ownOSent : FVec F S256x1024 .bf16 :=
  k0_pay33 (qry x wq) kept (oHead0 x wq k v) (oHead1 x wq k v) (oHead2 x wq k v) (oHead3 x wq k v) (oHead4 x wq k v)
    (oHead5 x wq k v) (wHead6 x wq k) (vHead v 6) (kHead k 7) (vHead v 7)
/-- and the sums of the weights. -/
def ownL : FVec F S8x256 .f32 :=
  k0_pay32 (qry x wq) kept (lHead0 x wq k) (lHead1 x wq k) (lHead2 x wq k) (lHead3 x wq k) (lHead4 x wq k)
    (lHead5 x wq k) (wHead6 x wq k) (kHead k 7)

end Device

/-! ## The arrays of a run -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s copies of the five arguments. -/
def stg0 (c : Dev nD) : (cc0_stg0_0 : Ref sig .tc).ty.Contents (Elt F) :=
  (win0_0.blk (0 : Fin 1)).view.read (Elt F) ((s₀ m ρ).mem ((c : Thread nD τ).loc main_arg0))
def stg1 (c : Dev nD) : (cc0_stg1_0 : Ref sig .tc).ty.Contents (Elt F) :=
  (win0_1.blk (0 : Fin 1)).view.read (Elt F) ((s₀ m ρ).mem ((c : Thread nD τ).loc main_arg1))
def stg2 (c : Dev nD) : (cc0_stg2_0 : Ref sig .tc).ty.Contents (Elt F) :=
  (win0_2.blk (0 : Fin 1)).view.read (Elt F) ((s₀ m ρ).mem ((c : Thread nD τ).loc main_arg2))
def stg3 (c : Dev nD) : (cc0_stg3_0 : Ref sig .tc).ty.Contents (Elt F) :=
  (win0_3.blk (0 : Fin 1)).view.read (Elt F) ((s₀ m ρ).mem ((c : Thread nD τ).loc main_arg3))
def stg4 (c : Dev nD) : (cc0_stg4_0 : Ref sig .tc).ty.Contents (Elt F) :=
  (win0_4.blk (0 : Fin 1)).view.read (Elt F) ((s₀ m ρ).mem ((c : Thread nD τ).loc main_arg4))

/-- What device `c` holds before the exchanges and after each of the first two, and what it sends at each. -/
def accO0 (c : Dev nD) : FVec F S256x1024 .f32 := ownO (stg0 m ρ c) (stg1 m ρ c) (stg2 m ρ c) (stg3 m ρ c)
def accL0 (c : Dev nD) : FVec F S8x256 .f32 := ownL (stg0 m ρ c) (stg1 m ρ c) (stg2 m ρ c)
def sentO0 (c : Dev nD) : FVec F S256x1024 .bf16 := ownOSent (stg0 m ρ c) (stg1 m ρ c) (stg2 m ρ c) (stg3 m ρ c)
def sentL0 (c : Dev nD) : FVec F S8x256 .f32 := k0_pay34 (accL0 m ρ c)
def accO1 (c : Dev nD) : FVec F S256x1024 .f32 := k0_pay35 (accO0 m ρ c) (oLift (sentO0 m ρ (peer 0 c)))
def accL1 (c : Dev nD) : FVec F S8x256 .f32 := k0_pay36 (accL0 m ρ c) (lLift (sentL0 m ρ (peer 0 c)))
def sentO1 (c : Dev nD) : FVec F S256x1024 .bf16 := k0_pay37 (accO0 m ρ c) (oLift (sentO0 m ρ (peer 0 c)))
def sentL1 (c : Dev nD) : FVec F S8x256 .f32 := k0_pay38 (accL0 m ρ c) (lLift (sentL0 m ρ (peer 0 c)))
def accO2 (c : Dev nD) : FVec F S256x1024 .f32 := k0_pay39 (accO1 m ρ c) (oLift (sentO1 m ρ (peer 1 c)))
def accL2 (c : Dev nD) : FVec F S8x256 .f32 := k0_pay40 (accL1 m ρ c) (lLift (sentL1 m ρ (peer 1 c)))
def sentO2 (c : Dev nD) : FVec F S256x1024 .bf16 := k0_pay41 (accO1 m ρ c) (oLift (sentO1 m ρ (peer 1 c)))
def sentL2 (c : Dev nD) : FVec F S8x256 .f32 := k0_pay42 (accL1 m ρ c) (lLift (sentL1 m ρ (peer 1 c)))

/-- What device `c` sends at stage `s`. -/
def sentO (s : Fin 3) (c : Dev nD) : FVec F S256x1024 .bf16 :=
  match s with
  | 0 => sentO0 m ρ c
  | 1 => sentO1 m ρ c
  | 2 => sentO2 m ρ c
def sentL (s : Fin 3) (c : Dev nD) : FVec F S8x256 .f32 :=
  match s with
  | 0 => sentL0 m ρ c
  | 1 => sentL1 m ρ c
  | 2 => sentL2 m ρ c

/-- The kernel's result on device `c`. -/
def outAt (c : Dev nD) : (cc0_stg5_0 : Ref sig .tc).ty.Contents (Elt F) :=
  k0_pay1 (accO2 m ρ c) (accL2 m ρ c) (oLift (sentO2 m ρ (peer 2 c))) (lLift (sentL2 m ρ (peer 2 c))) (stg4 m ρ c)

end Cert.Butterfly

end
-- ==== Proof.Proto.lean ====
/-
  The exchange's protocol, at any float values.

  A device's barrier cell: it waits once, for three units; the partner of stage `s` signals one unit and hands over its
  landing slots `s`. At stage `s` a device copies what it holds into its partner's landing slots `s`, one transfer for
  the values and one for the weights. Each transfer credits a send cell of its own, which hands the sent buffer back,
  and a landing cell of its partner, which hands over the filled slot. A device waits for its two send cells and its
  two landing cells of a stage before it goes on.
-/
module

public import proofs.«01_k».proof.Proof.Contents

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

abbrev barS : Sem sig := (SemArray.scalar (sig.barrier 0 rfl) : Sems sig S_).sem
abbrev barCell (c : Dev nD) : GSem nD τ sig := ((c : Thread nD τ), .reg barS)
abbrev xcell (k : Fin 12) (c : Dev nD) : GSem nD τ sig := ((c : Thread nD τ), .dma (xsem k))

/-- The kernel's scoped semaphores; and these with the barrier in front. -/
abbrev osem (k : Fin 12) : SemLoc sig := .dma (xsem k)
abbrev csem (j : Fin 13) : SemLoc sig := Fin.cases (.reg barS) osem j
abbrev kcell (cj : Dev nD × Fin 13) : GSem nD τ sig := ((cj.1 : Thread nD τ), csem cj.2)

theorem xsem_inj {k k' : Fin 12} (h : xsem k = xsem k') : k = k' := by
  have := congrArg Fin.val h; simp only [xsem] at this; exact Fin.ext (by omega)
theorem dma_ne_bar (q : DmaSem sig) : (SemLoc.dma q : SemLoc sig) ≠ .reg barS := fun h => by cases h

/-- The transfer semaphore's number among the twelve. -/
def kOf (q : DmaSem sig) : Fin 12 := ⟨(q.val - 6) % 12, Nat.mod_lt _ (by decide)⟩
theorem kOf_xsem (k : Fin 12) : kOf (xsem k) = k := by revert k; decide

/-- What a transfer of the family credits. -/
def amt (k : Fin 12) : ℕ := if k.val < 6 then NO else NL
theorem amt_pos (k : Fin 12) : 0 < amt k := by unfold amt; split; exacts [NO_pos, NL_pos]
theorem amt_oS (s : Fin 3) : amt (oS s) = NO := if_pos (by simp only [oS]; omega)
theorem amt_oR (s : Fin 3) : amt (oR s) = NO := if_pos (by simp only [oR]; omega)
theorem amt_lS (s : Fin 3) : amt (lS s) = NL := if_neg (by simp only [lS]; omega)
theorem amt_lR (s : Fin 3) : amt (lR s) = NL := if_neg (by simp only [lR]; omega)

/-! ## What is handed over -/

/-- The two sent buffers whole; -/
def oPts (c : Dev nD) (f : Buf (Elt F) (oM.view.loc (c : Thread nD τ))) : sProp 𝕄 :=
  oM.view.loc (c : Thread nD τ) ↦[oM.view.set]{fullShare} f
def lPts (c : Dev nD) (f : Buf (Elt F) (lM.view.loc (c : Thread nD τ))) : sProp 𝕄 :=
  lM.view.loc (c : Thread nD τ) ↦[lM.view.set]{fullShare} f
/-- a landing slot's elements; -/
def oSlotPts (s : Fin 3) (c : Dev nD) (f : Buf (Elt F) ((oSlot s).view.loc (c : Thread nD τ))) : sProp 𝕄 :=
  (oSlot s).view.loc (c : Thread nD τ) ↦[(oSlot s).view.set]{fullShare} f
def lSlotPts (s : Fin 3) (c : Dev nD) (f : Buf (Elt F) ((lSlot s).view.loc (c : Thread nD τ))) : sProp 𝕄 :=
  (lSlot s).view.loc (c : Thread nD τ) ↦[(lSlot s).view.set]{fullShare} f

/-- and a landing slot filled with `w`. -/
def oFull (s : Fin 3) (c : Dev nD) (w : Vec F S256x1024 .bf16) : sProp 𝕄 :=
  iprop(∃ f, ⌜(oSlot s).view.read (Elt F) f = w⌝ ∗ oSlotPts s c f)
def lFull (s : Fin 3) (c : Dev nD) (w : Vec F S8x256 .f32) : sProp 𝕄 :=
  iprop(∃ f, ⌜(lSlot s).view.read (Elt F) f = w⌝ ∗ lSlotPts s c f)

instance oPts_storable (c : Dev nD) (f) : BI.Storable (upEmb : UEmb _ 𝕄) (oPts (F := F) c f) := by unfold oPts; infer_instance
instance lPts_storable (c : Dev nD) (f) : BI.Storable (upEmb : UEmb _ 𝕄) (lPts (F := F) c f) := by unfold lPts; infer_instance
instance oSlotPts_storable (s : Fin 3) (c : Dev nD) (f) : BI.Storable (upEmb : UEmb _ 𝕄) (oSlotPts (F := F) s c f) := by unfold oSlotPts; infer_instance
instance lSlotPts_storable (s : Fin 3) (c : Dev nD) (f) : BI.Storable (upEmb : UEmb _ 𝕄) (lSlotPts (F := F) s c f) := by unfold lSlotPts; infer_instance
instance oFull_storable (s : Fin 3) (c : Dev nD) (w) : BI.Storable (upEmb : UEmb _ 𝕄) (oFull (F := F) s c w) := by unfold oFull; infer_instance
instance lFull_storable (s : Fin 3) (c : Dev nD) (w) : BI.Storable (upEmb : UEmb _ 𝕄) (lFull (F := F) s c w) := by unfold lFull; infer_instance

/-- A device's signal to its partner of stage `s` hands over its own landing slots `s`: read on the receiving side. -/
def barPay (c : Dev nD) (s : Fin 3) : sProp 𝕄 :=
  iprop((∃ f, oSlotPts (F := F) s (peer s c) f) ∗ ∃ f, lSlotPts (F := F) s (peer s c) f)

/-- A send cell hands back the sent buffer at what was sent; a landing cell hands over the slot filled with what the
    stage's partner sent. -/
def xPay (c : Dev nD) (k : Fin 12) : sProp 𝕄 :=
  match k with
  | 0 => oPts c (sentO m ρ 0 c)
  | 1 => oPts c (sentO m ρ 1 c)
  | 2 => oPts c (sentO m ρ 2 c)
  | 3 => oFull 0 c (sentO m ρ 0 (peer 0 c))
  | 4 => oFull 1 c (sentO m ρ 1 (peer 1 c))
  | 5 => oFull 2 c (sentO m ρ 2 (peer 2 c))
  | 6 => lPts c (sentL m ρ 0 c)
  | 7 => lPts c (sentL m ρ 1 c)
  | 8 => lPts c (sentL m ρ 2 c)
  | 9 => lFull 0 c (sentL m ρ 0 (peer 0 c))
  | 10 => lFull 1 c (sentL m ρ 1 (peer 1 c))
  | 11 => lFull 2 c (sentL m ρ 2 (peer 2 c))

theorem xPay_oS (c : Dev nD) (s : Fin 3) : xPay m ρ c (oS s) = oPts c (sentO m ρ s c) := by fin_cases s <;> rfl
theorem xPay_oR (c : Dev nD) (s : Fin 3) : xPay m ρ c (oR s) = oFull s c (sentO m ρ s (peer s c)) := by fin_cases s <;> rfl
theorem xPay_lS (c : Dev nD) (s : Fin 3) : xPay m ρ c (lS s) = lPts c (sentL m ρ s c) := by fin_cases s <;> rfl
theorem xPay_lR (c : Dev nD) (s : Fin 3) : xPay m ρ c (lR s) = lFull s c (sentL m ρ s (peer s c)) := by fin_cases s <;> rfl

instance barPay_storable (c : Dev nD) (s : Fin 3) : BI.Storable (upEmb : UEmb _ 𝕄) (barPay (F := F) c s) := by
  unfold barPay; infer_instance
instance xPay_storable (c : Dev nD) (k : Fin 12) : BI.Storable (upEmb : UEmb _ 𝕄) (xPay m ρ c k) := by
  fin_cases k <;> (simp only [xPay]; infer_instance)

/-! ## The schedule -/

abbrev IsBar (g : GSem nD τ sig) : Prop := g.1.2 = .tc ∧ g.2 = .reg barS
abbrev IsXfer (g : GSem nD τ sig) : Prop := g.1.2 = .tc ∧ ∃ k, g.2 = .dma (xsem k)

/-- One round. A barrier cell has one duty of one unit per stage; a transfer cell has one duty, the transfer's credit. -/
def ringRd : Rounds.Schedule (GSem nD τ sig) (Fin 3) 𝕄 where
  duties g r := if r = 0 ∧ IsBar g then Finset.univ else if r = 0 ∧ IsXfer g then {0} else ∅
  unitless _ := False
  amount g _ _ := match g.2 with
    | .reg _ => 1
    | .dma q => amt (kOf q)
  payload g _ d := match g.2 with
    | .reg _ => barPay g.1.1 d
    | .dma q => xPay m ρ g.1.1 (kOf q)
  amount_pos g _ _ _ := by
    rcases g with ⟨g1, (_ | q)⟩
    · exact Nat.one_pos
    · exact amt_pos _

instance ringRd_payload_storable (g : GSem nD τ sig) (r : ℕ) (d : Fin 3) :
    BI.Storable (upEmb : UEmb _ 𝕄) ((ringRd (F := F) m ρ).payload g r d) := by
  rcases g with ⟨g1, (_ | q)⟩
  · exact barPay_storable _ _
  · exact xPay_storable m ρ _ _

section Sched
variable (c : Dev nD)

theorem duties_bar : (ringRd (F := F) m ρ).duties (barCell c) 0 = Finset.univ := by
  dsimp only [ringRd]; exact if_pos ⟨rfl, rfl, rfl⟩
theorem duties_x (k : Fin 12) : (ringRd (F := F) m ρ).duties (xcell k c) 0 = {0} := by
  dsimp only [ringRd]; rw [if_neg (fun h => dma_ne_bar _ h.2.2)]; exact if_pos ⟨rfl, rfl, k, rfl⟩
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 3) : (ringRd (F := F) m ρ).amount (barCell c) 0 d = 1 := rfl
theorem amount_x (k : Fin 12) (d : Fin 3) : (ringRd (F := F) m ρ).amount (xcell k c) 0 d = amt k := by
  show amt (kOf (xsem k)) = amt k
  rw [kOf_xsem]

theorem expect_bar : (ringRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_x (k : Fin 12) : (ringRd (F := F) m ρ).expect (xcell k c) 0 = amt k := by
  unfold Schedule.expect Schedule.amountOf; rw [duties_x, Finset.sum_singleton, amount_x]

theorem payload_bar (d : Fin 3) : (ringRd (F := F) m ρ).payload (barCell c) 0 d = barPay c d := rfl
theorem payload_x (k : Fin 12) (d : Fin 3) : (ringRd (F := F) m ρ).payload (xcell k c) 0 d = xPay m ρ c k := by
  show xPay m ρ c (kOf (xsem k)) = xPay m ρ c k
  rw [kOf_xsem]

/-- The whole of the barrier cell's round: the three partners' landing slots. -/
theorem rest_bar : bigSep ((ringRd (F := F) m ρ).duties (barCell c) 0 \ ∅) (fun d => (ringRd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_x (k : Fin 12) : bigSep ((ringRd (F := F) m ρ).duties (xcell k c) 0 \ ∅) (fun d => (ringRd (F := F) m ρ).payload (xcell k c) 0 d)
    = xPay m ρ c k := by
  rw [Finset.sdiff_empty, duties_x, bigSep_singleton, payload_x]

end Sched

/-! ## What each device owes, and the order of the waits -/

/-- The unit a device owes its partner's barrier cell; the credits it owes its partner's landing cells. -/
def dB (s : Fin 3) (c : Dev nD) : CellTallies nD τ sig Unit := tallyAt (barCell (peer s c)) () 1
def dO (s : Fin 3) (c : Dev nD) : CellTallies nD τ sig Unit := tallyAt (xcell (oR s) (peer s c)) () NO
def dL (s : Fin 3) (c : Dev nD) : CellTallies nD τ sig Unit := tallyAt (xcell (lR s) (peer s c)) () NL

/-- What is owed after each payment, the last payment first. -/
def X2 (c : Dev nD) : CellTallies nD τ sig Unit := 0 + dL 2 c + dO 2 c
def X1 (c : Dev nD) : CellTallies nD τ sig Unit := X2 c + dL 1 c + dO 1 c
def X0 (c : Dev nD) : CellTallies nD τ sig Unit := X1 c + dL 0 c + dO 0 c
def O₀ (c : Dev nD) : CellTallies nD τ sig Unit := X0 c + dB 2 c + dB 1 c + dB 0 c

def L (g : GSem nD τ sig) : Finset Unit := if g.1.2 = .tc then {()} else ∅
/-- Levels: staging and send cells at 0, barrier cells at 1, landing cells of stage `s` at `2 + s`. -/
def lv (g : GSem nD τ sig) (_ : Unit) : ℕ := match g.2 with
  | .reg _ => 1
  | .dma q => if q.val < 9 then 0 else if q.val < 12 then q.val - 7 else if q.val < 15 then 0 else q.val - 13

theorem L_of_ne (g : GSem nD τ sig) (h : g.1.2 ≠ .tc) : L g = ∅ := if_neg h
theorem L_tc (c : Dev nD) (sm : SemLoc sig) : L ((c : Thread nD τ), sm) = {()} := if_pos rfl

theorem lv_oS (s : Fin 3) (c : Dev nD) : lv (xcell (oS s) c) () = 0 := by fin_cases s <;> rfl
theorem lv_lS (s : Fin 3) (c : Dev nD) : lv (xcell (lS s) c) () = 0 := by fin_cases s <;> rfl
theorem lv_oR (s : Fin 3) (c : Dev nD) : lv (xcell (oR s) c) () = 2 + s.val := by fin_cases s <;> rfl
theorem lv_lR (s : Fin 3) (c : Dev nD) : lv (xcell (lR s) c) () = 2 + s.val := by fin_cases s <;> rfl

/-- Every cell owed anything is a core's and lies above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O : CellTallies nD τ sig Unit} (h : Above n O) (c : Dev nD) (sm : SemLoc sig) (k : ℕ)
    (hl : n < lv ((c : Thread nD τ), sm) ()) : Above n (O + tallyAt ((c : Thread nD τ), sm) () k) := by
  intro g u hg
  rw [Pi.add_apply, Finsupp.add_apply, tallyAt_apply] at hg
  by_cases he : g = ((c : Thread nD τ), sm) ∧ u = ()
  · rw [he.1]; exact ⟨rfl, hl⟩
  · rw [if_neg he, Nat.add_zero] at hg; exact h g u hg
theorem above_mono {n n' : ℕ} (hn : n ≤ n') {O : CellTallies nD τ sig Unit} (h : Above n' O) : Above n O :=
  fun g u hg => ⟨(h g u hg).1, Nat.lt_of_le_of_lt hn (h g u hg).2⟩

theorem above_X2 (c : Dev nD) : Above 3 (X2 c) :=
  above_add (above_add (above_zero 3) _ _ _ (by rw [lv_lR]; decide)) _ _ _ (by rw [lv_oR]; decide)
theorem above_X1 (c : Dev nD) : Above 2 (X1 c) :=
  above_add (above_add (above_mono (by decide) (above_X2 c)) _ _ _ (by rw [lv_lR]; decide)) _ _ _ (by rw [lv_oR]; decide)
theorem above_X0 (c : Dev nD) : Above 1 (X0 c) :=
  above_add (above_add (above_mono (by decide) (above_X1 c)) _ _ _ (by rw [lv_lR]; decide)) _ _ _ (by rw [lv_oR]; decide)
theorem above_O₀ (c : Dev nD) : Above 0 (O₀ c) :=
  above_add (above_add (above_add (above_mono (by decide) (above_X0 c)) _ _ _ Nat.one_pos) _ _ _ Nat.one_pos) _ _ _ Nat.one_pos

/-- A device may wait on a cell of its own below everything it owes. -/
theorem mayWait_of (c : Dev nD) (sm : SemLoc sig) (O : CellTallies nD τ sig Unit)
    (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [L, if_pos (h g u hg).1]; exact Finset.mem_singleton_self _)
    (fun p hp => by rw [Finset.mem_singleton.mp hp])
    (fun g u hg => (h g u hg).2)

end Cert.Butterfly

end
-- ==== Proof.Exchange.lean ====
/-
  The cells of a run and one stage of the exchange, at any float values.
-/
module

public import proofs.«01_k».proof.Proof.Proto

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

omit [FloatOps F] [Named F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A device's thirteen cells, as its barrier cell and the four cells of each stage. -/
def perCell (Φ : GSem nD τ sig → sProp 𝕄) (c : Dev nD) : sProp 𝕄 :=
  iprop(Φ (barCell c) ∗ bigSep Finset.univ fun s : Fin 3 =>
    iprop(Φ (xcell (oS s) c) ∗ Φ (xcell (oR s) c) ∗ Φ (xcell (lS s) c) ∗ Φ (xcell (lR s) c)))

omit [FloatOps F] [Named F] in
theorem cells_list (Φ : GSem nD τ sig → sProp 𝕄) (c : Dev nD) :
    (bigSep Finset.univ fun k : Fin 12 => Φ (xcell k c))
      = iprop(Φ (xcell (oS 0) c) ∗ Φ (xcell (oS 1) c) ∗ Φ (xcell (oS 2) c)
        ∗ Φ (xcell (oR 0) c) ∗ Φ (xcell (oR 1) c) ∗ Φ (xcell (oR 2) c)
        ∗ Φ (xcell (lS 0) c) ∗ Φ (xcell (lS 1) c) ∗ Φ (xcell (lS 2) c)
        ∗ Φ (xcell (lR 0) c) ∗ Φ (xcell (lR 1) c) ∗ Φ (xcell (lR 2) c)) :=
  bigSep_univ_eq_bigSepL [oS 0, oS 1, oS 2, oR 0, oR 1, oR 2, lS 0, lS 1, lS 2, lR 0, lR 1, lR 2] (by decide) (by decide) _

omit [FloatOps F] [Named F] in
theorem perCell_of (Φ : GSem nD τ sig → sProp 𝕄) (c : Dev nD) :
    iprop(Φ (barCell c) ∗ bigSep Finset.univ fun k : Fin 12 => Φ (xcell k c)) ⊢ perCell Φ c := by
  unfold perCell
  rw [cells_list, bigSep_fin3]
  iintro ⟨HB, H0, H1, H2, H3, H4, H5, H6, H7, H8, H9, H10, H11⟩
  isplitl [HB]; · iexact HB
  isplitl [H0 H3 H6 H9]
  · isplitl [H0]; · iexact H0
    isplitl [H3]; · iexact H3
    isplitl [H6] <;> iassumption
  isplitl [H1 H4 H7 H10]
  · isplitl [H1]; · iexact H1
    isplitl [H4]; · iexact H4
    isplitl [H7] <;> iassumption
  isplitl [H2]; · iexact H2
  isplitl [H5]; · iexact H5
  isplitl [H8] <;> iassumption

omit [FloatOps F] [Named F] in
theorem perCell_to (Φ : GSem nD τ sig → sProp 𝕄) (c : Dev nD) :
    perCell Φ c ⊢ iprop(Φ (barCell c) ∗ bigSep Finset.univ fun k : Fin 12 => Φ (xcell k c)) := by
  unfold perCell
  rw [cells_list, bigSep_fin3]
  iintro ⟨HB, ⟨H0, H3, H6, H9⟩, ⟨H1, H4, H7, H10⟩, H2, H5, H8, H11⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10] <;> iassumption

omit [FloatOps F] [Named F] in
/-- The thirteen cells as the launch numbers them. -/
theorem kcells_eq (Φ : GSem nD τ sig → sProp 𝕄) (c : Dev nD) :
    (bigSep Finset.univ fun j : Fin 13 => Φ (kcell (c, j)))
      = iprop(Φ (barCell c) ∗ bigSep Finset.univ fun k : Fin 12 => Φ (xcell k c)) := by
  rw [bigSep_univ_eq_bigSepL [0, 1, 2, 3, 4, 5, 6, 7, 8, 9, 10, 11, 12] (by decide) (by decide),
    bigSep_univ_eq_bigSepL [0, 1, 2, 3, 4, 5, 6, 7, 8, 9, 10, 11] (by decide) (by decide)]
  rfl

/-! ## What every device knows of every cell -/

/-- Every cell's invariant under the names `K`, and that every cell has reached round 0. -/
def records (K : Dev nD × Fin 13 → ℕ) : sProp 𝕄 :=
  iprop((bigSep Finset.univ fun cj : Dev nD × Fin 13 => cellInv ER (ringRd m ρ) (K cj) (kcell cj))
    ∗ bigSep Finset.univ fun cj : Dev nD × Fin 13 => reached ER (kcell cj) 0)

instance records_persistent (K : Dev nD × Fin 13 → ℕ) : BI.Persistent (records m ρ K) := by unfold records; infer_instance

theorem inv_at (K : Dev nD × Fin 13 → ℕ) (cj : Dev nD × Fin 13) :
    (bigSep Finset.univ fun cj : Dev nD × Fin 13 => (cellInv ER (ringRd m ρ) (K cj) (kcell cj) : sProp 𝕄))
      ⊢ cellInv ER (ringRd m ρ) (K cj) (kcell cj) := bigSep_elim (Finset.mem_univ cj)
omit [FloatOps F] [Named F] in
theorem reached_at (cj : Dev nD × Fin 13) :
    (bigSep Finset.univ fun cj : Dev nD × Fin 13 => (reached ER (kcell cj) 0 : sProp 𝕄)) ⊢ reached ER (kcell cj) 0 :=
  bigSep_elim (Finset.mem_univ cj)

theorem inv_bar (K : Dev nD × Fin 13 → ℕ) (c : Dev nD) :
    records m ρ K ⊢ cellInv ER (ringRd m ρ) (K (c, 0)) (barCell c) := by
  unfold records; iintro ⟨H, -⟩; iapply (inv_at m ρ K (c, 0)); iexact H
theorem inv_x (K : Dev nD × Fin 13 → ℕ) (c : Dev nD) (k : Fin 12) :
    records m ρ K ⊢ cellInv ER (ringRd m ρ) (K (c, k.succ)) (xcell k c) := by
  unfold records; iintro ⟨H, -⟩; iapply (inv_at m ρ K (c, k.succ)); iexact H
theorem reached_bar (K : Dev nD × Fin 13 → ℕ) (c : Dev nD) : records m ρ K ⊢ reached ER (barCell c) 0 := by
  unfold records; iintro ⟨-, H⟩; iapply (reached_at (F := F) (c, 0)); iexact H
theorem reached_x (K : Dev nD × Fin 13 → ℕ) (c : Dev nD) (k : Fin 12) : records m ρ K ⊢ reached ER (xcell k c) 0 := by
  unfold records; iintro ⟨-, H⟩; iapply (reached_at (F := F) (c, k.succ)); iexact H

/-! ## One stage -/

/-- What device `c` brings to stage `s`: its positions at the stage's four cells, the tokens of the four duties it pays,
    and the credits of its two landing cells. -/
def stageIn (s : Fin 3) (c : Dev nD) : sProp 𝕄 :=
  iprop((atPos ER (xcell (oS s) c) 0 ∅ 0 ∗ atPos ER (xcell (oR s) c) 0 ∅ 0 ∗ atPos ER (xcell (lS s) c) 0 ∅ 0 ∗ atPos ER (xcell (lR s) c) 0 ∅ 0)
    ∗ (dutyTok ER (xcell (oS s) c) 0 0 ∗ dutyTok ER (xcell (oR s) (peer s c)) 0 0 ∗ dutyTok ER (xcell (lS s) c) 0 0 ∗ dutyTok ER (xcell (lR s) (peer s c)) 0 0)
    ∗ cred (tallyAt (xcell (oR s) c) () NO) ∗ cred (tallyAt (xcell (lR s) c) () NL))

/-- What it has after: the sent buffers back, its landing slots filled, the four counters at zero. -/
def stageOut (s : Fin 3) (c : Dev nD) : sProp 𝕄 :=
  iprop((oPts c (sentO m ρ s c) ∗ lPts c (sentL m ρ s c) ∗ oFull s c (sentO m ρ s (peer s c)) ∗ lFull s c (sentL m ρ s (peer s c)))
    ∗ (semVal (xcell (oS s) c) 0 ∗ semVal (xcell (oR s) c) 0 ∗ semVal (xcell (lS s) c) 0 ∗ semVal (xcell (lR s) c) 0))

section Stage

variable (K : Dev nD × Fin 13 → ℕ)

/-- A wait for the whole of one transfer cell's round, the cell closed behind it. -/
theorem wp_wait_x (c : Dev nD) (k : Fin 12) {a : DmaSem sig} (ha : a = xsem k) {sp sp' : Space} {s s' : Shape} {e e' : EltTy}
    {src : Memref sig (c : Thread nD τ).2.kind sp' s' e'} {κ' : Kind} {dst : Memref sig κ' sp s e}
    {hsrc : src.view.WordExact} {hdst : dst.view.WordExact} (hk : dst.view.dmaCredit = amt k)
    {α : Type} {Q : α → sProp 𝕄} {kt : PUnit → Prog (TpuEff nD τ sig (Elt F) Λ₀ .tc) α}
    (O : CellTallies nD τ sig Unit) (hO : Above (lv (xcell k c) ()) O) (W : Waits sig Unit) :
    iprop(records m ρ K ∗ levAts L lv ∗ cred (tallyAt (xcell k c) () (amt k)) ∗ owes (c : Thread nD τ) O W ∗ atPos ER (xcell k c) 0 ∅ 0)
      ⊢ iprop(((owes (c : Thread nD τ) O (insert (SemLoc.dma (xsem k), ()) W) ∗ semVal (xcell k c) 0 ∗ xPay m ρ c k)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 a src dst hsrc hdst) kt) Q) := by
  subst ha
  have hx : 0 + dst.view.dmaCredit = (ringRd m ρ).expect (xcell k c) 0 := by rw [Nat.zero_add, expect_x, hk]
  iintro ⟨#HR, #Hlev, Hc, HO, Hat⟩ Hk
  iapply (Rounds.wp_wait_rest_token 𝒱₀ ER (ringRd m ρ) (c : Thread nD τ) none (κ := K (c, k.succ))
      (wpE_waitDma2_eq 𝒱₀ (c : Thread nD τ) none Set.univ) (Set.mem_univ _) () (O := O) (W := W) (R := 0) (m := 0) (T := ∅) hx) $$ [Hc HO Hat]
  · isplitr; · iapply (inv_x m ρ K c k); iexact HR
    isplitl [Hc]; · rw [hk]; iexact Hc
    isplitl [HO]; · iexact HO
    isplitr; · iapply (mayWait_of c _ O hO); iexact Hlev
    iexact Hat
  iintro ⟨HO, Hat, -, Hpay⟩
  ihave Hp := (Entails.of_eq (rest_x m ρ c k)) $$ Hpay
  imod (Rounds.cell_close ER (ringRd m ρ) (Set.mem_univ (K (c, k.succ))) (fun h => h) (R := 0 + 1) (duties_later m ρ (xcell k c))) $$ [Hat] with Hz
  · isplitr; · iapply (inv_x m ρ K c k); iexact HR
    iexact Hat
  iapply Hk
  isplitl [HO]; · iexact HO
  isplitl [Hz] <;> iassumption

set_option maxHeartbeats 2000000 in
/-- The two transfers of stage `s` and the four waits. -/
theorem wp_exchange (c : Dev nD) (s : Fin 3) {n n' : Dev nD} (hn : n = peer s c) (hn' : n' = peer s c)
    {aS aR bS bR : DmaSem sig} (haS : aS = xsem (oS s)) (haR : aR = xsem (oR s)) (hbS : bS = xsem (lS s)) (hbR : bR = xsem (lR s))
    {dO : Memref sig .tc .vmem S256x1024 .bf16} {dL : Memref sig .tc .vmem S8x256 .f32} (hdO : dO = oSlot s) (hdL : dL = lSlot s)
    {hscO : (show Memref sig (Dev.tc n : Thread nD τ).2.kind .vmem S256x1024 .bf16 from dO).view.ref.isScScratch = false}
    {hscL : (show Memref sig (Dev.tc n' : Thread nD τ).2.kind .vmem S8x256 .f32 from dL).view.ref.isScScratch = false}
    {h1 h1' h1'' : oM.view.WordExact} {h2 h2' h2'' : dO.view.WordExact} {h3 h3' h3'' : lM.view.WordExact} {h4 h4' h4'' : dL.view.WordExact}
    {hsemO : DmaTarget.Typed .vmem (.dma aR) (.remote (Dev.tc n : Thread nD τ) dO (.dma aS) hscO)}
    {hsemL : DmaTarget.Typed .vmem (.dma bR) (.remote (Dev.tc n' : Thread nD τ) dL (.dma bS) hscL)}
    {α : Type} {Q : α → sProp 𝕄} {kt : PUnit → Prog (TpuEff nD τ sig (Elt F) Λ₀ .tc) α}
    (O : CellTallies nD τ sig Unit) (hO : Above (2 + s.val) O) (W : Waits sig Unit) :
    iprop(records m ρ K ∗ levAts L lv ∗ stageIn (F := F) s c ∗ barPay (F := F) c s
        ∗ oPts c (sentO m ρ s c) ∗ lPts c (sentL m ρ s c)
        ∗ owes (c : Thread nD τ) (O + Cert.Butterfly.dL s c + Cert.Butterfly.dO s c) W)
      ⊢ iprop((((∃ W', owes (c : Thread nD τ) O W') ∗ stageOut m ρ s c)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma oM (.remote (Dev.tc n : Thread nD τ) dO (.dma aS) hscO) (.dma aR) h1 h2 hsemO) fun _ =>
               .op (.enqueueDma lM (.remote (Dev.tc n' : Thread nD τ) dL (.dma bS) hscL) (.dma bR) h3 h4 hsemL) fun _ =>
               .op (.waitDma2 aS dO oM h2' h1') fun _ => .op (.waitDma2 aR oM dO h1'' h2'') fun _ =>
               .op (.waitDma2 bS dL lM h4' h3') fun _ => .op (.waitDma2 bR lM dL h3'' h4'') kt) Q) := by
  subst haS haR hbS hbR hdO hdL
  subst hn
  subst hn'
  unfold stageIn barPay
  iintro ⟨#HR, #Hlev, ⟨⟨HaOS, HaOR, HaLS, HaLR⟩, ⟨HtOS, HtOR, HtLS, HtLR⟩, HcOR, HcLR⟩, ⟨⟨%fo, HdO⟩, ⟨%fl, HdL⟩⟩, Ho, Hl, HO⟩ Hk
  unfold oPts lPts oSlotPts lSlotPts
  unfold Cert.Butterfly.dO Cert.Butterfly.dL
  iapply (Rounds.wp_send_pointsTo 𝒱₀ ER (ringRd m ρ) (c : Thread nD τ) none (sS := .dma (xsem (oS s))) (sem := .dma (xsem (oR s))) (κ₁ := K (c, (oS s).succ)) (κ₂ := K (peer s c, (oR s).succ))
      (r₁ := 0) (r₂ := 0) (d₁ := 0) (d₂ := 0) (fd := fo)
      (by rw [duties_x]; exact Finset.mem_singleton_self _) (by rw [duties_x]; exact Finset.mem_singleton_self _)
      () () NO (oSlot_credit s) ((amount_x m ρ c (oS s) 0).trans (amt_oS s)) ((amount_x m ρ (peer s c) (oR s) 0).trans (amt_oR s))
      (O + tallyAt (xcell (lR s) (peer s c)) () NL) rfl (W := W)
      (by rw [payload_x, xPay_oS]; exact BI.Entails.refl _)
      (by rw [payload_x, xPay_oR, peer_peer]; unfold oFull oSlotPts
          iintro H; iexists _; isplitr
          rotate_left; · iexact H
          ipureintro; rw [View.read_write_univ]; exact View.read_whole _ _)) $$ [Ho HdO HO HtOS HtOR]
  · isplitr; · iapply (inv_x m ρ K c (oS s)); iexact HR
    isplitr; · iapply (inv_x m ρ K (peer s c) (oR s)); iexact HR
    isplitl [Ho]; · iexact Ho
    isplitl [HdO]; · iexact HdO
    isplitl [HO]; · iexact HO
    isplitl [HtOS]; · iexact HtOS
    isplitr; · iapply (reached_x m ρ K c (oS s)); iexact HR
    isplitl [HtOR]; · iexact HtOR
    iapply (reached_x m ρ K (peer s c) (oR s)); iexact HR
  iintro ⟨HcOS, HO⟩
  iapply (Rounds.wp_send_pointsTo 𝒱₀ ER (ringRd m ρ) (c : Thread nD τ) none (sS := .dma (xsem (lS s))) (sem := .dma (xsem (lR s))) (κ₁ := K (c, (lS s).succ)) (κ₂ := K (peer s c, (lR s).succ))
      (r₁ := 0) (r₂ := 0) (d₁ := 0) (d₂ := 0) (fd := fl)
      (by rw [duties_x]; exact Finset.mem_singleton_self _) (by rw [duties_x]; exact Finset.mem_singleton_self _)
      () () NL (lSlot_credit s) ((amount_x m ρ c (lS s) 0).trans (amt_lS s)) ((amount_x m ρ (peer s c) (lR s) 0).trans (amt_lR s))
      O rfl (W := W)
      (by rw [payload_x, xPay_lS]; exact BI.Entails.refl _)
      (by rw [payload_x, xPay_lR, peer_peer]; unfold lFull lSlotPts
          iintro H; iexists _; isplitr
          rotate_left; · iexact H
          ipureintro; rw [View.read_write_univ]; exact View.read_whole _ _)) $$ [Hl HdL HO HtLS HtLR]
  · isplitr; · iapply (inv_x m ρ K c (lS s)); iexact HR
    isplitr; · iapply (inv_x m ρ K (peer s c) (lR s)); iexact HR
    isplitl [Hl]; · iexact Hl
    isplitl [HdL]; · iexact HdL
    isplitl [HO]; · iexact HO
    isplitl [HtLS]; · iexact HtLS
    isplitr; · iapply (reached_x m ρ K c (lS s)); iexact HR
    isplitl [HtLR]; · iexact HtLR
    iapply (reached_x m ρ K (peer s c) (lR s)); iexact HR
  iintro ⟨HcLS, HO⟩
  iapply (wp_wait_x m ρ K c (oS s) rfl (amt_oS s).symm O (above_mono (by rw [lv_oS]; exact Nat.zero_le _) hO) W) $$ [HcOS HO HaOS]
  · isplitr; · iexact HR
    isplitr; · iexact Hlev
    isplitl [HcOS]; · rw [amt_oS]; iexact HcOS
    isplitl [HO] <;> iassumption
  iintro ⟨HO, HzOS, Ho⟩
  iapply (wp_wait_x m ρ K c (oR s) rfl (dst := oSlot s) ((oSlot_credit s).trans (amt_oR s).symm) O (by rw [lv_oR]; exact hO) _) $$ [HcOR HO HaOR]
  · isplitr; · iexact HR
    isplitr; · iexact Hlev
    isplitl [HcOR]; · rw [amt_oR]; iexact HcOR
    isplitl [HO] <;> iassumption
  iintro ⟨HO, HzOR, HdO⟩
  iapply (wp_wait_x m ρ K c (lS s) rfl (amt_lS s).symm O (above_mono (by rw [lv_lS]; exact Nat.zero_le _) hO) _) $$ [HcLS HO HaLS]
  · isplitr; · iexact HR
    isplitr; · iexact Hlev
    isplitl [HcLS]; · rw [amt_lS]; iexact HcLS
    isplitl [HO] <;> iassumption
  iintro ⟨HO, HzLS, Hl⟩
  iapply (wp_wait_x m ρ K c (lR s) rfl (dst := lSlot s) ((lSlot_credit s).trans (amt_lR s).symm) O (by rw [lv_lR]; exact hO) _) $$ [HcLR HO HaLR]
  · isplitr; · iexact HR
    isplitr; · iexact Hlev
    isplitl [HcLR]; · rw [amt_lR]; iexact HcLR
    isplitl [HO] <;> iassumption
  iintro ⟨HO, HzLR, HdL⟩
  iapply Hk
  unfold stageOut
  ihave Ho := (Entails.of_eq (xPay_oS m ρ c s)) $$ Ho
  ihave HdO := (Entails.of_eq (xPay_oR m ρ c s)) $$ HdO
  ihave Hl := (Entails.of_eq (xPay_lS m ρ c s)) $$ Hl
  ihave HdL := (Entails.of_eq (xPay_lR m ρ c s)) $$ HdL
  isplitl [HO]; · iexists _; iexact HO
  isplitl [Ho Hl HdO HdL]
  · isplitl [Ho]; · iexact Ho
    isplitl [Hl]; · iexact Hl
    isplitl [HdO] <;> iassumption
  isplitl [HzOS]; · iexact HzOS
  isplitl [HzOR]; · iexact HzOR
  isplitl [HzLS] <;> iassumption

end Stage

end Cert.Butterfly

end
-- ==== Proof.Body.lean ====
/-
  The kernel's body on one device, at any float values: the handshake, the device's own sums, three stages of exchange,
  and the result.
-/
module

public import proofs.«01_k».proof.Proof.Exchange

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What a device starts from and ends with -/

/-- The tokens of the duties device `c` pays: its partners' barrier cells, and per stage its own two send cells and its
    partner's two landing cells. -/
def payToks (c : Dev nD) : sProp 𝕄 :=
  iprop((bigSep Finset.univ fun s : Fin 3 => dutyTok ER (barCell (peer s c)) 0 s)
    ∗ bigSep Finset.univ fun s : Fin 3 =>
      iprop(dutyTok ER (xcell (oS s) c) 0 0 ∗ dutyTok ER (xcell (oR s) (peer s c)) 0 0 ∗ dutyTok ER (xcell (lS s) c) 0 0 ∗ dutyTok ER (xcell (lR s) (peer s c)) 0 0))

/-- The protocol's state device `c` starts from, under the names `K`. -/
def ghost (K : Dev nD × Fin 13 → ℕ) (c : Dev nD) : sProp 𝕄 :=
  iprop(records m ρ K ∗ perCell (fun g => atPos ER g 0 ∅ 0) c ∗ payToks (F := F) c)

/-- Its launch credits: the barrier's three units and the credits of its landing cells. -/
def creds (c : Dev nD) : sProp 𝕄 :=
  iprop(cred (tallyAt (barCell c) () 3) ∗ bigSep Finset.univ fun s : Fin 3 =>
    iprop(cred (tallyAt (xcell (oR s) c) () NO) ∗ cred (tallyAt (xcell (lR s) c) () NL)))

def start (c : Dev nD) : sProp 𝕄 := iprop((∃ K, ghost m ρ K c) ∗ creds (F := F) c ∗ levAts L lv)

/-- The kernel's scratch buffers at any contents. -/
abbrev scratch (c : Dev nD) : sProp 𝕄 := Pipeline.scopedRest (Ix := Unit) (Name := ℕ) (U := UU) (Lvl := ℕ) (Val := Elt F) spec0 c

def Φ₀ (c : Dev nD) : sProp 𝕄 := iprop(start m ρ c ∗ scratch (F := F) c)
/-- After: the scratch buffers, and the thirteen counters at zero. -/
def Φ₁ (c : Dev nD) : sProp 𝕄 := iprop(scratch (F := F) c ∗ perCell (fun g => semVal g 0) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => stg0 m ρ c
    | ⟨1, _⟩ => stg1 m ρ c
    | ⟨2, _⟩ => stg2 m ρ c
    | ⟨3, _⟩ => stg3 m ρ c
    | ⟨4, _⟩ => stg4 m ρ c
    | ⟨5, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_in (w : Fin 6) (hw : w ≠ 5) (t : Fin cfg0.N) : (cfg0.win w).fetch t = true := by
  rw [fin_N t]; revert w; decide

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The landing buffers cut into slots and put together -/

omit [FloatOps F] [Named F] in
theorem o_cut (c : Dev nD) (f : Buf (Elt F) ((c : Thread nD τ).loc cc0_scratch1)) :
    (((c : Thread nD τ).loc cc0_scratch1) ↦{fullShare} f : sProp 𝕄) ⊢ bigSep Finset.univ fun s : Fin 3 => iprop(∃ f, oSlotPts (F := F) s c f) := by
  rw [Ring.pointsTo_blocks (ℓ := (c : Thread nD τ).loc cc0_scratch1) (fun s : Fin 3 => (oSlot s).view.set) oSlot_disjoint
    (by rw [show (fun s : Fin 3 => (oSlot s).view.set) = fun s => (oRect s).set from funext oSlot_set]; exact oSlot_cover) f]
  exact bigSep_mono fun s _ => show (_ : sProp 𝕄) ⊢ _ from by unfold oSlotPts; iintro H; iexists f; iexact H

omit [FloatOps F] [Named F] in
theorem l_cut (c : Dev nD) (f : Buf (Elt F) ((c : Thread nD τ).loc cc0_scratch3)) :
    (((c : Thread nD τ).loc cc0_scratch3) ↦{fullShare} f : sProp 𝕄) ⊢ bigSep Finset.univ fun s : Fin 3 => iprop(∃ f, lSlotPts (F := F) s c f) := by
  rw [Ring.pointsTo_blocks (ℓ := (c : Thread nD τ).loc cc0_scratch3) (fun s : Fin 3 => (lSlot s).view.set) lSlot_disjoint
    (by rw [show (fun s : Fin 3 => (lSlot s).view.set) = fun s => (lRect s).set from funext lSlot_set]; exact lSlot_cover) f]
  exact bigSep_mono fun s _ => show (_ : sProp 𝕄) ⊢ _ from by unfold lSlotPts; iintro H; iexists f; iexact H

theorem o_join (c : Dev nD) (f₀ : Buf (Elt F) ((c : Thread nD τ).loc cc0_scratch1)) (w : Fin 3 → Vec F S256x1024 .bf16) :
    (bigSep Finset.univ fun s : Fin 3 => oFull (F := F) s c (w s)) ⊢ (iprop(∃ f, ((c : Thread nD τ).loc cc0_scratch1) ↦{fullShare} f) : sProp 𝕄) :=
  (bigSep_mono fun s _ => show (_ : sProp 𝕄) ⊢ _ from by
    unfold oFull oSlotPts; iintro ⟨%f, -, H⟩; iexists f; iexact H).trans
  (Ring.pointsTo_blocks_join_exists (ℓ := (c : Thread nD τ).loc cc0_scratch1) (fun s : Fin 3 => (oSlot s).view.set) oSlot_disjoint
    (by rw [show (fun s : Fin 3 => (oSlot s).view.set) = fun s => (oRect s).set from funext oSlot_set]; exact oSlot_cover) f₀)

theorem l_join (c : Dev nD) (f₀ : Buf (Elt F) ((c : Thread nD τ).loc cc0_scratch3)) (w : Fin 3 → Vec F S8x256 .f32) :
    (bigSep Finset.univ fun s : Fin 3 => lFull (F := F) s c (w s)) ⊢ (iprop(∃ f, ((c : Thread nD τ).loc cc0_scratch3) ↦{fullShare} f) : sProp 𝕄) :=
  (bigSep_mono fun s _ => show (_ : sProp 𝕄) ⊢ _ from by
    unfold lFull lSlotPts; iintro ⟨%f, -, H⟩; iexists f; iexact H).trans
  (Ring.pointsTo_blocks_join_exists (ℓ := (c : Thread nD τ).loc cc0_scratch3) (fun s : Fin 3 => (lSlot s).view.set) lSlot_disjoint
    (by rw [show (fun s : Fin 3 => (lSlot s).view.set) = fun s => (lRect s).set from funext lSlot_set]; exact lSlot_cover) f₀)

/-- A sent buffer held at contents that are what the stage sends. -/
theorem oPts_of (c : Dev nD) (s : Fin 3) :
    iprop(∃ f : Buf (Elt F) ((c : Thread nD τ).loc cc0_scratch0), ⌜f = sentO m ρ s c⌝ ∗ (((c : Thread nD τ).loc cc0_scratch0) ↦{fullShare} f))
      ⊢ oPts c (sentO m ρ s c) := by
  iintro ⟨%f, %hf, H⟩; subst hf; unfold oPts; rw [View.set_whole]; iexact H
theorem lPts_of (c : Dev nD) (s : Fin 3) :
    iprop(∃ f : Buf (Elt F) ((c : Thread nD τ).loc cc0_scratch2), ⌜f = sentL m ρ s c⌝ ∗ (((c : Thread nD τ).loc cc0_scratch2) ↦{fullShare} f))
      ⊢ lPts c (sentL m ρ s c) := by
  iintro ⟨%f, %hf, H⟩; subst hf; unfold lPts; rw [View.set_whole]; iexact H
omit [FloatOps F] [Named F] in
theorem oPts_eq (c : Dev nD) (f : Buf (Elt F) ((c : Thread nD τ).loc cc0_scratch0)) :
    oPts c f = (((c : Thread nD τ).loc cc0_scratch0) ↦{fullShare} f : sProp 𝕄) := by unfold oPts; rw [View.set_whole]
omit [FloatOps F] [Named F] in
theorem lPts_eq (c : Dev nD) (f : Buf (Elt F) ((c : Thread nD τ).loc cc0_scratch2)) :
    lPts c f = (((c : Thread nD τ).loc cc0_scratch2) ↦{fullShare} f : sProp 𝕄) := by unfold lPts; rw [View.set_whole]

section Slots

variable {α : Type} (K : Dev nD × Fin 13 → ℕ)

/-- A load of a filled slot returns what it holds. -/
theorem wp_load_o (c : Dev nD) (s : Fin 3) (w : Vec F S256x1024 .bf16) {off : Fin 3 → ℕ} (ho : off = ![s.val, 0, 0])
    {inb : ∀ a, off a + S1x256x1024.size a ≤ S3x256x1024.size a}
    {hl : orM.view.LoadsAt (Rect.unit (s := S3x256x1024) off S1x256x1024.size inb).toLoadRect}
    {Q : α → sProp 𝕄} {k : Vec F S1x256x1024 .bf16 → Prog (TpuEff nD τ sig (Elt F) Λ₀ .tc) α} :
    oFull s c w ⊢ iprop((oFull s c w -∗ wp frame (wpE (defs₀ (F := F)) 𝒱₀ (c : Thread nD τ) none) Set.univ (k (oLift w)) Q)
      -∗ wp frame (wpE (defs₀ (F := F)) 𝒱₀ (c : Thread nD τ) none) Set.univ
          (.op (.load orM (Rect.unit (s := S3x256x1024) off S1x256x1024.size inb).toLoadRect hl) k) Q) := by
  subst ho
  unfold oFull oSlotPts
  iintro ⟨%f, %hf, H⟩ Hk
  iapply (wp_load_rect 𝒱₀ (c : Thread nD τ) none Set.univ (m := orM) (r := oRect s) (S := (oSlot s).view.set) (f := f)
    (by rw [oSlot_set]; exact (View.set_slice_whole _ _).subset)) $$ H
  iintro H
  have hv : (orM.access (oRect s)).read (Elt F) f = oLift w := by rw [← hf]; exact read_oSlot s f
  rw [hv]
  iapply Hk
  iexists f; isplitr; · (ipureintro; exact hf)
  iexact H

theorem wp_load_l (c : Dev nD) (s : Fin 3) (w : Vec F S8x256 .f32) {off : Fin 3 → ℕ} (ho : off = ![s.val, 0, 0])
    {inb : ∀ a, off a + S1x8x256.size a ≤ S3x8x256.size a}
    {hl : lrM.view.LoadsAt (Rect.unit (s := S3x8x256) off S1x8x256.size inb).toLoadRect}
    {Q : α → sProp 𝕄} {k : Vec F S1x8x256 .f32 → Prog (TpuEff nD τ sig (Elt F) Λ₀ .tc) α} :
    lFull s c w ⊢ iprop((lFull s c w -∗ wp frame (wpE (defs₀ (F := F)) 𝒱₀ (c : Thread nD τ) none) Set.univ (k (lLift w)) Q)
      -∗ wp frame (wpE (defs₀ (F := F)) 𝒱₀ (c : Thread nD τ) none) Set.univ
          (.op (.load lrM (Rect.unit (s := S3x8x256) off S1x8x256.size inb).toLoadRect hl) k) Q) := by
  subst ho
  unfold lFull lSlotPts
  iintro ⟨%f, %hf, H⟩ Hk
  iapply (wp_load_rect 𝒱₀ (c : Thread nD τ) none Set.univ (m := lrM) (r := lRect s) (S := (lSlot s).view.set) (f := f)
    (by rw [lSlot_set]; exact (View.set_slice_whole _ _).subset)) $$ H
  iintro H
  have hv : (lrM.access (lRect s)).read (Elt F) f = lLift w := by rw [← hf]; exact read_lSlot s f
  rw [hv]
  iapply Hk
  iexists f; isplitr; · (ipureintro; exact hf)
  iexact H

/-- One signal of the handshake: device `c` hands its landing slots `s` to its partner of stage `s`. -/
theorem wp_signal_bar (c : Dev nD) (s : Fin 3) {n : Dev nD} (hn : n = peer s c) {Q : α → sProp 𝕄}
    {kt : PUnit → Prog (TpuEff nD τ sig (Elt F) Λ₀ .tc) α} (O : CellTallies nD τ sig Unit) (W : Waits sig Unit) :
    iprop(records m ρ K ∗ owes (c : Thread nD τ) (O + dB s c) W ∗ dutyTok ER (barCell (peer s c)) 0 s
        ∗ (∃ f, oSlotPts (F := F) s c f) ∗ (∃ f, lSlotPts (F := F) s c f))
      ⊢ iprop((owes (c : Thread nD τ) O W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n, .tc) barS ((1#32 : BitVec 32).toInt)) kt) Q) := by
  subst hn
  iintro ⟨#HR, HO, Ht, Ho, Hl⟩ Hk
  unfold dB
  iapply (Rounds.wp_signal 𝒱₀ ER (ringRd m ρ) (c : Thread nD τ) none (dst := (peer s c : Thread nD τ)) (κ := K (peer s c, 0))
      (d := s) (by rw [duties_bar]; exact Finset.mem_univ _) ((amount_bar m ρ (peer s c) s).trans (by decide)) () O rfl)
    $$ [HO Ht Ho Hl]
  · isplitr; · iapply (inv_bar m ρ K (peer s c)); iexact HR
    isplitl [HO]; · iexact HO
    isplitl [Ht]; · iexact Ht
    isplitl [Ho Hl]
    · rw [payload_bar]; unfold barPay; rw [peer_peer]
      isplitl [Ho] <;> iassumption
    · iapply (reached_bar m ρ K (peer s c)); iexact HR
  iexact Hk

/-- The wait of the handshake: the three partners' landing slots, and the barrier's counter at zero. -/
theorem wp_wait_bar (c : Dev nD) {Q : α → sProp 𝕄} {kt : PUnit → Prog (TpuEff nD τ sig (Elt F) Λ₀ .tc) α} (W : Waits sig Unit) :
    iprop(records m ρ K ∗ levAts L lv ∗ cred (tallyAt (barCell c) () 3) ∗ owes (c : Thread nD τ) (X0 c) W ∗ atPos ER (barCell c) 0 ∅ 0)
      ⊢ iprop(((∃ W', owes (c : Thread nD τ) (X0 c) W') ∗ semVal (barCell c) 0 ∗ barPay (F := F) c 0 ∗ barPay (F := F) c 1 ∗ barPay (F := F) c 2
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS ((3#32 : BitVec 32).toInt)) kt) Q) := by
  iintro ⟨#HR, #Hlev, Hc, HO, Hat⟩ Hk
  iapply (Rounds.wp_wait_rest_token 𝒱₀ ER (ringRd m ρ) (c : Thread nD τ) none (κ := K (c, 0))
      (wpE_semWait_eq 𝒱₀ (c : Thread nD τ) none Set.univ) (Set.mem_univ _) () (O := X0 c) (W := W) (R := 0) (m := 0) (T := ∅)
      (by rw [Nat.zero_add, expect_bar]; decide)) $$ [Hc HO Hat]
  · isplitr; · iapply (inv_bar m ρ K c); iexact HR
    isplitl [Hc]; · iexact Hc
    isplitl [HO]; · iexact HO
    isplitr; · iapply (mayWait_of c (.reg barS) (X0 c) (above_X0 c)); iexact Hlev
    iexact Hat
  iintro ⟨HO, Hat, -, Hpay⟩
  ihave Hp := (Entails.of_eq (rest_bar m ρ c)) $$ Hpay
  imod (Rounds.cell_close ER (ringRd m ρ) (Set.mem_univ (K (c, 0))) (fun h => h) (R := 0 + 1) (duties_later m ρ (barCell c))) $$ [Hat] with Hz
  · isplitr; · iapply (inv_bar m ρ K c); iexact HR
    iexact Hat
  iapply Hk
  isplitl [HO]; · iexists _; iexact HO
  isplitl [Hz] <;> iassumption

end Slots

/-! ## The body -/

section Body

variable (K : Dev nD × Fin 13 → ℕ)

def bodyPre (c : Dev nD) : sProp 𝕄 :=
  iprop((ghost m ρ K c ∗ creds (F := F) c ∗ levAts L lv ∗ scratch (F := F) c)
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ (F := F) c ∗ (dats m ρ 0 c).owesAt () t₀.succ ∗ stg c cc0_stg0_0 (stg0 m ρ c) ∗ stg c cc0_stg1_0 (stg1 m ρ c)
    ∗ stg c cc0_stg2_0 (stg2 m ρ c) ∗ stg c cc0_stg3_0 (stg3 m ρ c) ∗ stg c cc0_stg4_0 (stg4 m ρ c) ∗ stg c cc0_stg5_0 (outAt m ρ c))

theorem before_in (c : Dev nD) (w : Fin 6) (hw : w ≠ 5) (d) :
    (dats (F := F) m ρ 0 c).before w t₀ d = (dats m ρ 0 c).after w t₀ := by
  unfold Dat.before; rw [if_pos (fetch_in w hw t₀)]
  fin_cases w <;> first | rfl | exact absurd rfl hw

abbrev xM : Memref sig .tc .vmem S1x256x1024 .bf16 := Memref.whole cc0_stg0_0
abbrev wqM : Memref sig .tc .vmem S1024x1024 .bf16 := Memref.whole cc0_stg1_0
abbrev woM : Memref sig .tc .vmem S1024x1024 .bf16 := Memref.whole cc0_stg4_0
abbrev outM : Memref sig .tc .vmem S1x256x1024 .f32 := Memref.whole cc0_stg5_0

omit [FloatOps F] [Named F] in
theorem read_x (f) : xM.view.readAt (Elt F) (Rect.unit (s := S1x256x1024) ![0, 0, 0] S1x256x1024.size inb_S1x256x1024_S1x256x1024_0_0_0).toLoadRect f = f :=
  Memref.readAt_unit_zero (Elt F) cc0_stg0_0 (by decide) _ f
omit [FloatOps F] [Named F] in
theorem read_wq (f) : wqM.view.readAt (Elt F) (Rect.unit (s := S1024x1024) ![0, 0] S1024x1024.size inb_S1024x1024_S1024x1024_0_0).toLoadRect f = f :=
  Memref.readAt_unit_zero (Elt F) cc0_stg1_0 (by decide) _ f
omit [FloatOps F] [Named F] in
theorem read_wo (f) : woM.view.readAt (Elt F) (Rect.unit (s := S1024x1024) ![0, 0] S1024x1024.size inb_S1024x1024_S1024x1024_0_0).toLoadRect f = f :=
  Memref.readAt_unit_zero (Elt F) cc0_stg4_0 (by decide) _ f
omit [FloatOps F] [Named F] in
theorem write_o (f w) : (oM.access (Rect.unit (s := S256x1024) ![0, 0] S256x1024.size inb_S256x1024_S256x1024_0_0)).write (Elt F) f w Finset.univ = w :=
  Memref.write_access_unit_zero_univ (Elt F) cc0_scratch0 (by decide) _ f w
omit [FloatOps F] [Named F] in
theorem write_l (f w) : (lM.access (Rect.unit (s := S8x256) ![0, 0] S8x256.size inb_S8x256_S8x256_0_0)).write (Elt F) f w Finset.univ = w :=
  Memref.write_access_unit_zero_univ (Elt F) cc0_scratch2 (by decide) _ f w
omit [FloatOps F] [Named F] in
theorem write_out (f w) : (outM.access (Rect.unit (s := S1x256x1024) ![0, 0, 0] S1x256x1024.size inb_S1x256x1024_S1x256x1024_0_0_0)).write (Elt F) f w Finset.univ = w :=
  Memref.write_access_unit_zero_univ (Elt F) cc0_stg5_0 (by decide) _ f w

set_option maxHeartbeats 4000000 in
/-- The body, run from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) wqM (Memref.isWhole_whole _) kM (Memref.isWhole_whole _) vM (Memref.isWhole_whole _)
            woM (Memref.isWhole_whole _) outM (Memref.isWhole_whole _) oM (Memref.isWhole_whole _) orM (Memref.isWhole_whole _)
            lM (Memref.isWhole_whole _) lrM (Memref.isWhole_whole _) cc0_scratch4 cc0_scratch5 cc0_scratch6 cc0_scratch7) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [semSignalWord, semWaitWord, Prog.lift, Prog.bind_op, Prog.bind_ret, Prog.pure_eq_ret, wp_deviceId]
  unfold bodyPre ghost payToks creds perCell scratch
  rw [scopedRest0_eq]
  simp only [bigSep_fin3]
  iintro ⟨⟨⟨⟨#HR, ⟨HaB, ⟨Ha00, Ha01, Ha02, Ha03⟩, ⟨Ha10, Ha11, Ha12, Ha13⟩, ⟨Ha20, Ha21, Ha22, Ha23⟩⟩, ⟨HtB0, HtB1, HtB2⟩, Ht0, Ht1, Ht2⟩,
      ⟨HcB, ⟨Hc00, Hc01⟩, ⟨Hc10, Hc11⟩, ⟨Hc20, Hc21⟩⟩, #Hlev, ⟨%fO, Ho⟩, ⟨%fR, Hor⟩, ⟨%fL, Hl⟩, ⟨%fT, Hlr⟩⟩,
    HO, ⟨%d0, %g0, %hg0, Hx⟩, ⟨%d1, %g1, %hg1, Hwq⟩, ⟨%d2, %g2, %hg2, Hk⟩, ⟨%d3, %g3, %hg3, Hv⟩, ⟨%d4, %g4, %hg4, Hwo⟩, ⟨%d5, %g5, %hg5, Hout⟩⟩, HK⟩
  rw [before_in m ρ c 0 (by decide)] at hg0
  rw [before_in m ρ c 1 (by decide)] at hg1
  rw [before_in m ρ c 2 (by decide)] at hg2
  rw [before_in m ρ c 3 (by decide)] at hg3
  rw [before_in m ρ c 4 (by decide)] at hg4
  replace hg0 : g0 = stg0 m ρ c := hg0
  replace hg1 : g1 = stg1 m ρ c := hg1
  replace hg2 : g2 = stg2 m ρ c := hg2
  replace hg3 : g3 = stg3 m ρ c := hg3
  replace hg4 : g4 = stg4 m ρ c := hg4
  subst hg0 hg1 hg2 hg3 hg4
  unfold Dat.owesAt Pipeline.owesWithin
  icases HO with ⟨%W, %hW, HO⟩
  rw [show (dats m ρ 0 c).owed t₀.castSucc = X0 c + dB 2 c + dB 1 c + dB 0 c from rfl]
  -- the landing buffers cut into slots, each handed to the partner of its stage
  ihave Hors := (o_cut c fR) $$ Hor
  ihave Hlrs := (l_cut c fT) $$ Hlr
  ihave Hors' := (Entails.of_eq (bigSep_fin3 _)) $$ Hors
  ihave Hlrs' := (Entails.of_eq (bigSep_fin3 _)) $$ Hlrs
  icases Hors' with ⟨Hor0, Hor1, Hor2⟩
  icases Hlrs' with ⟨Hlr0, Hlr1, Hlr2⟩
  iapply (wp_signal_bar m ρ K c 0 (dev1_eq c) (X0 c + dB 2 c + dB 1 c) W) $$ [HO HtB0 Hor0 Hlr0]
  · isplitr; · iexact HR
    isplitl [HO]; · iexact HO
    isplitl [HtB0]; · iexact HtB0
    isplitl [Hor0] <;> iassumption
  iintro HO
  iapply (wp_signal_bar m ρ K c 1 (dev2_eq c) (X0 c + dB 2 c) W) $$ [HO HtB1 Hor1 Hlr1]
  · isplitr; · iexact HR
    isplitl [HO]; · iexact HO
    isplitl [HtB1]; · iexact HtB1
    isplitl [Hor1] <;> iassumption
  iintro HO
  iapply (wp_signal_bar m ρ K c 2 (dev3_eq c) (X0 c) W) $$ [HO HtB2 Hor2 Hlr2]
  · isplitr; · iexact HR
    isplitl [HO]; · iexact HO
    isplitl [HtB2]; · iexact HtB2
    isplitl [Hor2] <;> iassumption
  iintro HO
  iapply (wp_wait_bar m ρ K c W) $$ [HcB HO HaB]
  · isplitr; · iexact HR
    isplitr; · iexact Hlev
    isplitl [HcB]; · iexact HcB
    isplitl [HO] <;> iassumption
  iintro ⟨⟨%W1, HO⟩, HzB, Hb0, Hb1, Hb2⟩
  -- the device's own sums
  iapply (wp_load 𝒱₀ (c : Thread nD τ) none Set.univ (m := xM) (Finset.subset_univ _)) $$ Hx; iintro Hx
  rw [read_x]
  iapply (wp_load 𝒱₀ (c : Thread nD τ) none Set.univ (m := wqM) (Finset.subset_univ _)) $$ Hwq; iintro Hwq
  rw [read_wq]
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := oM) (Finset.subset_univ _)) $$ Ho; iintro Ho
  iapply (wp_store 𝒱₀ (c : Thread nD τ) none Set.univ (m := oM) (r := Rect.unit (s := S256x1024) ![0, 0] S256x1024.size inb_S256x1024_S256x1024_0_0) (Mk := Finset.univ) (Finset.subset_univ _)) $$ Ho; iintro Ho
  rw [write_o]
  iapply (wp_load 𝒱₀ (c : Thread nD τ) none Set.univ (m := lM) (Finset.subset_univ _)) $$ Hl; iintro Hl
  iapply (wp_store 𝒱₀ (c : Thread nD τ) none Set.univ (m := lM) (r := Rect.unit (s := S8x256) ![0, 0] S8x256.size inb_S8x256_S8x256_0_0) (Mk := Finset.univ) (Finset.subset_univ _)) $$ Hl; iintro Hl
  rw [write_l]
  -- stage 0
  iapply (wp_exchange m ρ K c 0 (dev4_eq c) (dev5_eq c) rfl rfl rfl rfl rfl rfl (X1 c) (above_X1 c) W1)
    $$ [Ha00 Ha01 Ha02 Ha03 Ht0 Hc00 Hc01 Hb0 Ho Hl HO]
  · isplitr; · iexact HR
    isplitr; · iexact Hlev
    isplitl [Ha00 Ha01 Ha02 Ha03 Ht0 Hc00 Hc01]
    · unfold stageIn
      isplitl [Ha00 Ha01 Ha02 Ha03]
      · isplitl [Ha00]; · iexact Ha00
        isplitl [Ha01]; · iexact Ha01
        isplitl [Ha02] <;> iassumption
      isplitl [Ht0]; · iexact Ht0
      isplitl [Hc00] <;> iassumption
    isplitl [Hb0]; · iexact Hb0
    isplitl [Ho]
    · iapply (oPts_of m ρ c 0); iexists _; isplitr
      rotate_left; · iexact Ho
      ipureintro; rfl
    isplitl [Hl]
    · iapply (lPts_of m ρ c 0); iexists _; isplitr
      rotate_left; · iexact Hl
      ipureintro; rfl
    iexact HO
  iintro ⟨⟨%W2, HO⟩, Hs0⟩
  unfold stageOut
  icases Hs0 with ⟨⟨Ho, Hl, Hor0, Hlr0⟩, Hz0⟩
  ihave Ho := (Entails.of_eq (oPts_eq c _)) $$ Ho
  ihave Hl := (Entails.of_eq (lPts_eq c _)) $$ Hl
  iapply (wp_load_o c 0 _ rfl) $$ Hor0; iintro Hor0
  iapply (wp_load_l c 0 _ rfl) $$ Hlr0; iintro Hlr0
  iapply (wp_load 𝒱₀ (c : Thread nD τ) none Set.univ (m := oM) (Finset.subset_univ _)) $$ Ho; iintro Ho
  iapply (wp_store 𝒱₀ (c : Thread nD τ) none Set.univ (m := oM) (r := Rect.unit (s := S256x1024) ![0, 0] S256x1024.size inb_S256x1024_S256x1024_0_0) (Mk := Finset.univ) (Finset.subset_univ _)) $$ Ho; iintro Ho
  rw [write_o]
  iapply (wp_load 𝒱₀ (c : Thread nD τ) none Set.univ (m := lM) (Finset.subset_univ _)) $$ Hl; iintro Hl
  iapply (wp_store 𝒱₀ (c : Thread nD τ) none Set.univ (m := lM) (r := Rect.unit (s := S8x256) ![0, 0] S8x256.size inb_S8x256_S8x256_0_0) (Mk := Finset.univ) (Finset.subset_univ _)) $$ Hl; iintro Hl
  rw [write_l]
  -- stage 1
  iapply (wp_exchange m ρ K c 1 (dev6_eq c) (dev7_eq c) rfl rfl rfl rfl rfl rfl (X2 c) (above_X2 c) W2)
    $$ [Ha10 Ha11 Ha12 Ha13 Ht1 Hc10 Hc11 Hb1 Ho Hl HO]
  · isplitr; · iexact HR
    isplitr; · iexact Hlev
    isplitl [Ha10 Ha11 Ha12 Ha13 Ht1 Hc10 Hc11]
    · unfold stageIn
      isplitl [Ha10 Ha11 Ha12 Ha13]
      · isplitl [Ha10]; · iexact Ha10
        isplitl [Ha11]; · iexact Ha11
        isplitl [Ha12] <;> iassumption
      isplitl [Ht1]; · iexact Ht1
      isplitl [Hc10] <;> iassumption
    isplitl [Hb1]; · iexact Hb1
    isplitl [Ho]
    · iapply (oPts_of m ρ c 1); iexists _; isplitr
      rotate_left; · iexact Ho
      ipureintro; rfl
    isplitl [Hl]
    · iapply (lPts_of m ρ c 1); iexists _; isplitr
      rotate_left; · iexact Hl
      ipureintro; rfl
    iexact HO
  iintro ⟨⟨%W3, HO⟩, Hs1⟩
  unfold stageOut
  icases Hs1 with ⟨⟨Ho, Hl, Hor1, Hlr1⟩, Hz1⟩
  ihave Ho := (Entails.of_eq (oPts_eq c _)) $$ Ho
  ihave Hl := (Entails.of_eq (lPts_eq c _)) $$ Hl
  iapply (wp_load_o c 1 _ rfl) $$ Hor1; iintro Hor1
  iapply (wp_load_l c 1 _ rfl) $$ Hlr1; iintro Hlr1
  iapply (wp_load 𝒱₀ (c : Thread nD τ) none Set.univ (m := oM) (Finset.subset_univ _)) $$ Ho; iintro Ho
  iapply (wp_store 𝒱₀ (c : Thread nD τ) none Set.univ (m := oM) (r := Rect.unit (s := S256x1024) ![0, 0] S256x1024.size inb_S256x1024_S256x1024_0_0) (Mk := Finset.univ) (Finset.subset_univ _)) $$ Ho; iintro Ho
  rw [write_o]
  iapply (wp_load 𝒱₀ (c : Thread nD τ) none Set.univ (m := lM) (Finset.subset_univ _)) $$ Hl; iintro Hl
  iapply (wp_store 𝒱₀ (c : Thread nD τ) none Set.univ (m := lM) (r := Rect.unit (s := S8x256) ![0, 0] S8x256.size inb_S8x256_S8x256_0_0) (Mk := Finset.univ) (Finset.subset_univ _)) $$ Hl; iintro Hl
  rw [write_l]
  -- stage 2
  iapply (wp_exchange m ρ K c 2 (dev8_eq c) (dev9_eq c) rfl rfl rfl rfl rfl rfl (0) (above_zero _) W3)
    $$ [Ha20 Ha21 Ha22 Ha23 Ht2 Hc20 Hc21 Hb2 Ho Hl HO]
  · isplitr; · iexact HR
    isplitr; · iexact Hlev
    isplitl [Ha20 Ha21 Ha22 Ha23 Ht2 Hc20 Hc21]
    · unfold stageIn
      isplitl [Ha20 Ha21 Ha22 Ha23]
      · isplitl [Ha20]; · iexact Ha20
        isplitl [Ha21]; · iexact Ha21
        isplitl [Ha22] <;> iassumption
      isplitl [Ht2]; · iexact Ht2
      isplitl [Hc20] <;> iassumption
    isplitl [Hb2]; · iexact Hb2
    isplitl [Ho]
    · iapply (oPts_of m ρ c 2); iexists _; isplitr
      rotate_left; · iexact Ho
      ipureintro; rfl
    isplitl [Hl]
    · iapply (lPts_of m ρ c 2); iexists _; isplitr
      rotate_left; · iexact Hl
      ipureintro; rfl
    iexact HO
  iintro ⟨⟨%W4, HO⟩, Hs2⟩
  unfold stageOut
  icases Hs2 with ⟨⟨Ho, Hl, Hor2, Hlr2⟩, Hz2⟩
  ihave Ho := (Entails.of_eq (oPts_eq c _)) $$ Ho
  ihave Hl := (Entails.of_eq (lPts_eq c _)) $$ Hl
  iapply (wp_load_o c 2 _ rfl) $$ Hor2; iintro Hor2
  iapply (wp_load_l c 2 _ rfl) $$ Hlr2; iintro Hlr2
  -- the result
  iapply (wp_load 𝒱₀ (c : Thread nD τ) none Set.univ (m := woM) (Finset.subset_univ _)) $$ Hwo; iintro Hwo
  rw [read_wo]
  iapply (wp_load 𝒱₀ (c : Thread nD τ) none Set.univ (m := outM) (Finset.subset_univ _)) $$ Hout; iintro Hout
  iapply (wp_store 𝒱₀ (c : Thread nD τ) none Set.univ (m := outM) (r := Rect.unit (s := S1x256x1024) ![0, 0, 0] S1x256x1024.size inb_S1x256x1024_S1x256x1024_0_0_0) (Mk := Finset.univ) (Finset.subset_univ _)) $$ Hout; iintro Hout
  rw [write_out, wp_ret]; imodintro
  iapply HK
  ihave Hor := (o_join c fR fun s => sentO m ρ s (peer s c)) $$ [Hor0 Hor1 Hor2]
  · rw [bigSep_fin3]
    isplitl [Hor0]; · iexact Hor0
    isplitl [Hor1] <;> iassumption
  ihave Hlr := (l_join c fT fun s => sentL m ρ s (peer s c)) $$ [Hlr0 Hlr1 Hlr2]
  · rw [bigSep_fin3]
    isplitl [Hlr0]; · iexact Hlr0
    isplitl [Hlr1] <;> iassumption
  unfold bodyPost Φ₁ scratch perCell Dat.owesAt Pipeline.owesWithin
  rw [scopedRest0_eq]
  simp only [bigSep_fin3]
  rw [show (dats m ρ 0 c).owed t₀.succ = 0 from rfl]
  isplitl [Ho Hor Hl Hlr HzB Hz0 Hz1 Hz2]
  · isplitl [Ho Hor Hl Hlr]
    · isplitl [Ho]; · iexists _; iexact Ho
      isplitl [Hor]; · iexact Hor
      isplitl [Hl]; · iexists _; iexact Hl
      iexact Hlr
    isplitl [HzB]; · iexact HzB
    isplitl [Hz0]; · iexact Hz0
    isplitl [Hz1] <;> iassumption
  isplitl [HO]
  · iexists W4
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hk]
  · iexists _; isplitr; · (ipureintro; rfl)
    iexact Hk
  isplitl [Hv]
  · iexists _; isplitr; · (ipureintro; rfl)
    iexact Hv
  isplitl [Hwo]
  · iexists _; isplitr; · (ipureintro; rfl)
    iexact Hwo
  iexists _; isplitr
  rotate_left; · iexact Hout
  ipureintro; rfl

def bodyPre' (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

/-- The pipeline's obligation for the body on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body xM (Memref.isWhole_whole _) wqM (Memref.isWhole_whole _) kM (Memref.isWhole_whole _) vM (Memref.isWhole_whole _)
            woM (Memref.isWhole_whole _) outM (Memref.isWhole_whole _) oM (Memref.isWhole_whole _) orM (Memref.isWhole_whole _)
            lM (Memref.isWhole_whole _) lrM (Memref.isWhole_whole _) cc0_scratch4 cc0_scratch5 cc0_scratch6 cc0_scratch7) (fun _ => bodyPost m ρ c)
  unfold bodyPre' Φ₀ start
  iintro ⟨⟨⟨⟨%K, Hg⟩, Hcr, Hlev⟩, Hscr⟩, Ho, Hst⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev] <;> iassumption
    isplitl [Ho] <;> iassumption
  · iintro H; iexact H

end Body

end Cert.Butterfly

end
-- ==== Proof.Run.lean ====
/-
  The kernel's run on the mesh, at any float values: the launch deals each device its share of the protocol's state, and
  every fair execution ends with the result of each device at `outAt`, its arguments unchanged and every counter at zero.
-/
module

public import proofs.«01_k».proof.Proof.Body
public import Idealize.ShloMosaic.Lib.Pipeline.CollectiveSegs

@[expose] public section

set_option maxRecDepth 16384

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and tokens the launch mints -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 13 → SemLoc sig) := by decide

theorem kcell_injective : Function.Injective (kcell : Dev nD × Fin 13 → GSem nD τ sig) := fun x y h => by
  have h1 : x.1 = y.1 := congrArg (fun g : GSem nD τ sig => g.1.1) h
  have h2 : x.2 = y.2 := csem_injective (congrArg Prod.snd h)
  exact Prod.ext h1 h2
def exCells : Finset (GSem nD τ sig) := Finset.univ.map ⟨kcell, kcell_injective⟩

/-- The duties minted per device and stage: the barrier's duty of the stage, and the one duty of each of its four
    transfer cells. -/
abbrev dutySem (sj : Fin 3 × Fin 5) : SemLoc sig × Fin 3 := match sj.2 with
  | 0 => (.reg barS, sj.1)
  | 1 => (osem (oS sj.1), 0)
  | 2 => (osem (oR sj.1), 0)
  | 3 => (osem (lS sj.1), 0)
  | 4 => (osem (lR sj.1), 0)
theorem dutySem_injective : Function.Injective dutySem := by decide
abbrev tokOf (x : Dev nD × Fin 3 × Fin 5) : GSem nD τ sig × ℕ × Fin 3 := (((x.1 : Thread nD τ), (dutySem x.2).1), 0, (dutySem x.2).2)
theorem tokOf_injective : Function.Injective tokOf := fun x y h => by
  have h1 : x.1 = y.1 := congrArg (fun g : GSem nD τ sig × ℕ × Fin 3 => g.1.1.1) h
  have h2 : x.2 = y.2 := dutySem_injective (Prod.ext (congrArg (fun g : GSem nD τ sig × ℕ × Fin 3 => g.1.2) h)
    (congrArg (fun g : GSem nD τ sig × ℕ × Fin 3 => g.2.2) h))
  exact Prod.ext h1 h2
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun s : Fin 3 => dutyTok ER (barCell c) 0 s)
    ∗ bigSep Finset.univ fun s : Fin 3 =>
      iprop(dutyTok ER (xcell (oS s) c) 0 0 ∗ dutyTok ER (xcell (oR s) c) 0 0 ∗ dutyTok ER (xcell (lS s) c) 0 0 ∗ dutyTok ER (xcell (lR s) c) 0 0))

/-- What the launch deals device `c`. -/
def G (c : Dev nD) : sProp 𝕄 :=
  iprop((bigSep Finset.univ fun j : Fin 13 => roundState ER (ringRd m ρ) (kcell (c, j)) 0)
    ∗ (bigSep Finset.univ fun j : Fin 13 => atPos ER (kcell (c, j)) 0 ∅ 0)
    ∗ (bigSep Finset.univ fun j : Fin 13 => reached ER (kcell (c, j)) 0) ∗ toks (F := F) c)

/-- What device `c` has of it once the cells' invariants are shared. -/
def G' (c : Dev nD) : sProp 𝕄 := iprop(∃ K, ghost m ρ K c)

omit [FloatOps F] [Named F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] [Named F] in
theorem toks_minted : bigSep exToks (fun x => (dutyTok ER x.1 x.2.1 x.2.2 : sProp 𝕄)) = bigSep Finset.univ fun c : Dev nD => toks c := by
  unfold exToks; rw [bigSep_map, bigSep_univ_prod]
  refine bigSep_congr fun c _ => ?_
  unfold toks
  rw [bigSep_univ_prod, ← bigSep_sep']
  exact bigSep_congr fun s _ => by rw [bigSep_fin5]; rfl

theorem fund_exchange : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun j : Fin 13 => Φ (kcell (c, j)) := by
    unfold exCells; rw [bigSep_map, bigSep_univ_prod]; rfl
  iintro HX
  imod (Rounds.fund ER (ringRd m ρ) exCells exToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_minted (F := F))) $$ Htok
  unfold G; simp only [bigSep_sep']
  isplitl [Hst']; · iexact Hst'
  isplitl [Hat']; · iexact Hat'
  isplitl [Hr']; · iexact Hr'
  iexact Htok'

/-! ## The counters -/

omit [FloatOps F] [Named F] in
theorem ownSems0_eq (c : Dev nD) : (Pipeline.ownSems0 (Ix := Unit) (Name := ℕ) (U := UU) (Lvl := ℕ) (Val := Elt F) (τ := τ) osem c : sProp 𝕄)
    = bigSep Finset.univ fun k : Fin 12 => semVal (xcell k c) 0 := by
  rw [Pipeline.ownSems0_eq_of_list c osem [0, 1, 2, 3, 4, 5, 6, 7, 8, 9, 10, 11] (by decide) (by decide),
    bigSep_univ_eq_bigSepL [0, 1, 2, 3, 4, 5, 6, 7, 8, 9, 10, 11] (by decide) (by decide)]
omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems0_to (c : Dev nD) :
    iprop(Pipeline.ownSems0 (Ix := Unit) (Name := ℕ) (U := UU) (Lvl := ℕ) (Val := Elt F) (τ := τ) osem c ∗ unscopedSems0 c)
      ⊢ (bigSep Finset.univ fun j : Fin 13 => semVal (kcell (c, j)) 0 : sProp 𝕄) := by
  rw [ownSems0_eq, unscopedSems0_eq, kcells_eq (fun g => semVal g 0)]
  iintro ⟨HX, HB⟩
  isplitl [HB] <;> iassumption

/-! ## The invariants made and shared -/

/-- Device `c`'s cells with their invariants made. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : Fin 13 => iprop(∃ κ : ℕ, cellInv ER (ringRd m ρ) κ (kcell (c, j))))
          ∗ (bigSep Finset.univ fun j : Fin 13 => atPos ER (kcell (c, j)) 0 ∅ 0)
          ∗ (bigSep Finset.univ fun j : Fin 13 => reached ER (kcell (c, j)) 0) ∗ toks (F := F) c) := by
  have hmk : iprop((bigSep Finset.univ fun j : Fin 13 => semVal (kcell (c, j)) 0) ∗ bigSep Finset.univ fun j : Fin 13 => roundState ER (ringRd m ρ) (kcell (c, j)) 0)
      ⊢ (|={Set.univ}=> bigSep Finset.univ fun j : Fin 13 => iprop(∃ κ : ℕ, cellInv ER (ringRd m ρ) κ (kcell (c, j))) : sProp 𝕄) := by
    rw [← bigSep_sep']
    exact (bigSep_mono fun j _ => (Rounds.body_intro ER (ringRd m ρ) (kcell (c, j))).trans inv_alloc).trans (bigSep_fupd _ _)
  unfold G
  iintro ⟨Hos, Hus, Hst, Hrest⟩
  ihave Hv := (sems0_to (F := F) c) $$ [Hos Hus]
  · isplitl [Hos] <;> iassumption
  imod hmk $$ [Hv Hst] with Hinv
  · isplitl [Hv] <;> iassumption
  imodintro
  isplitl [Hinv] <;> iassumption

omit [FloatOps F] [Named F] in
/-- Over all devices and stages, what is indexed by a device is as well indexed by its partner. -/
theorem over_peer (Ψ : Fin 3 → Dev nD → sProp 𝕄) :
    (bigSep Finset.univ fun c : Dev nD => bigSep Finset.univ fun s : Fin 3 => Ψ s c)
      = bigSep Finset.univ fun c : Dev nD => bigSep Finset.univ fun s : Fin 3 => Ψ s (peer s c) := by
  have hinv (x : Dev nD × Fin 3) : (peer x.2 (peer x.2 x.1), x.2) = x := Prod.ext (peer_peer x.2 x.1) rfl
  let e : Dev nD × Fin 3 ≃ Dev nD × Fin 3 := ⟨fun x => (peer x.2 x.1, x.2), fun x => (peer x.2 x.1, x.2), hinv, hinv⟩
  rw [← bigSep_univ_prod (fun x : Dev nD × Fin 3 => Ψ x.2 x.1), bigSep_univ_equiv e, bigSep_univ_prod]
  rfl

omit [FloatOps F] [Named F] in
/-- The tokens dealt to the devices that pay the duties. -/
theorem toks_dealt : (bigSep Finset.univ fun c : Dev nD => (toks c : sProp 𝕄)) = bigSep Finset.univ fun c : Dev nD => payToks c := by
  unfold toks payToks
  simp only [bigSep_sep']
  rw [over_peer (fun s c => (dutyTok ER (barCell c) 0 s : sProp 𝕄)), over_peer (fun s c => (dutyTok ER (xcell (oR s) c) 0 0 : sProp 𝕄)),
    over_peer (fun s c => (dutyTok ER (xcell (lR s) c) 0 0 : sProp 𝕄))]

theorem ghost_of (K : Dev nD × Fin 13 → ℕ) (c : Dev nD) :
    iprop(records m ρ K ∗ (bigSep Finset.univ fun j : Fin 13 => atPos ER (kcell (c, j)) 0 ∅ 0) ∗ payToks (F := F) c) ⊢ G' m ρ c := by
  unfold G' ghost
  iintro ⟨HR, Hat, Ht⟩
  iexists K
  isplitl [HR]; · iexact HR
  isplitl [Hat]
  · iapply (perCell_of (F := F) (fun g => atPos ER g 0 ∅ 0) c)
    ihave H := (Entails.of_eq (kcells_eq (F := F) (fun g => atPos ER g 0 ∅ 0) c)) $$ Hat
    iexact H
  iexact Ht

omit [FloatOps F] [Named F] in
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every device knows every cell's invariant, and the tokens lie with their payers. -/
theorem regroup :
    (bigSep Finset.univ fun c : Dev nD => iprop((bigSep Finset.univ fun j : Fin 13 => iprop(∃ κ : ℕ, cellInv ER (ringRd m ρ) κ (kcell (c, j))))
          ∗ (bigSep Finset.univ fun j : Fin 13 => atPos ER (kcell (c, j)) 0 ∅ 0)
          ∗ (bigSep Finset.univ fun j : Fin 13 => reached ER (kcell (c, j)) 0) ∗ toks (F := F) c) : sProp 𝕄)
      ⊢ bigSep Finset.univ (G' m ρ) := by
  rw [bigSep_sep', bigSep_sep', bigSep_sep', ← bigSep_univ_prod (fun cj : Dev nD × Fin 13 => iprop(∃ κ : ℕ, cellInv ER (ringRd m ρ) κ (kcell cj))),
    ← bigSep_univ_prod (fun cj : Dev nD × Fin 13 => (reached ER (kcell cj) 0 : sProp 𝕄)), toks_dealt]
  iintro ⟨HI, Hat, #HR, Htok⟩
  ihave HK := (BI.bigSep_exists_pi Finset.univ (fun (cj : Dev nD × Fin 13) (κ : ℕ) => (cellInv ER (ringRd m ρ) κ (kcell cj) : sProp 𝕄))) $$ HI
  icases HK with ⟨%K, #HI⟩
  iapply (with_each (R := records m ρ K) fun c _ => ghost_of m ρ K c)
  isplitr
  · unfold records; isplitl; · iexact HI
    iexact HR
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credits -/

omit [FloatOps F] [Named F] in
/-- What the partners of stage `s` owe a device's cell is the device's credit there. -/
theorem cred_peer (s : Fin 3) (sm : SemLoc sig) (n : ℕ) (c : Dev nD) :
    (Pipeline.launchCred (fun d => tallyAt (((peer s d).tc : Thread nD τ), sm) () n) c : sProp 𝕄) ⊢ cred (tallyAt ((c.tc : Thread nD τ), sm) () n) :=
  Pipeline.launchCred_tallyAt sm (peer s) (peer s) (peer_peer s) (peer_peer s) () n c

omit [FloatOps F] [Named F] in
theorem creds_intro (c : Dev nD) : (Pipeline.launchCred O₀ c : sProp 𝕄) ⊢ creds (F := F) c := by
  rw [show (O₀ : Dev nD → CellTallies nD τ sig Unit) = fun d => (fun _ => 0) d + dL 2 d + dO 2 d + dL 1 d + dO 1 d + dL 0 d + dO 0 d + dB 2 d + dB 1 d + dB 0 d from rfl]
  simp only [Pipeline.launchCred_add]
  unfold creds
  rw [bigSep_fin3]
  iintro ⟨⟨⟨⟨⟨⟨⟨⟨⟨-, H2l⟩, H2o⟩, H1l⟩, H1o⟩, H0l⟩, H0o⟩, HB2⟩, HB1⟩, HB0⟩
  isplitl [HB0 HB1 HB2]
  · rw [show (tallyAt (barCell c) () 3 : CellTallies nD τ sig Unit) = tallyAt (barCell c) () 1 + tallyAt (barCell c) () 1 + tallyAt (barCell c) () 1 from by
      rw [tallyAt_add, tallyAt_add]]
    iapply (cred_add _ _).2
    isplitl [HB0 HB1]
    · iapply (cred_add _ _).2
      isplitl [HB0]
      · iapply (cred_peer 0 (.reg barS) 1 c); iexact HB0
      · iapply (cred_peer 1 (.reg barS) 1 c); iexact HB1
    · iapply (cred_peer 2 (.reg barS) 1 c); iexact HB2
  isplitl [H0o H0l]
  · isplitl [H0o]
    · iapply (cred_peer 0 (osem (oR 0)) NO c); iexact H0o
    · iapply (cred_peer 0 (osem (lR 0)) NL c); iexact H0l
  isplitl [H1o H1l]
  · isplitl [H1o]
    · iapply (cred_peer 1 (osem (oR 1)) NO c); iexact H1o
    · iapply (cred_peer 1 (osem (lR 1)) NL c); iexact H1l
  isplitl [H2o]
  · iapply (cred_peer 2 (osem (oR 2)) NO c); iexact H2o
  · iapply (cred_peer 2 (osem (lR 2)) NL c); iexact H2l

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ownSems0_eq, unscopedSems0_eq]
  unfold Φ₁
  iintro ⟨Hr, Hz⟩
  ihave Hz' := (perCell_to (F := F) (fun g => semVal g 0) c) $$ Hz
  icases Hz' with ⟨HB, HX⟩
  isplitl [HB]; · iexact HB
  isplitl [HX] <;> iassumption

theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma (((cfgs 0).win w).sem s)) () = 0 := by fin_cases w <;> fin_cases s <;> rfl
    refine mayWait_of c _ _ ?_
    rw [hl]
    rcases t with ⟨_ | _, ht⟩
    · exact above_O₀ c
    · exact above_zero 0

/-- Window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every fair execution on the eight devices ends, with each device's arrays at
    what the proof data say and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (hw : (cfg0.win w).isOut = false) :
    finalA m ρ c w = (s₀ m ρ).mem ((cfg0.win w).arr.view.loc (c : Thread nD τ)) := (dats (F := F) m ρ 0 c).arrAt_in w hw _

/-- The arguments after the run hold what they held, and every counter is zero. -/
theorem run_frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c 0).trans (finalA_in m ρ c 0 rfl), (h.1 c 1).trans (finalA_in m ρ c 1 rfl),
    (h.1 c 2).trans (finalA_in m ρ c 2 rfl), (h.1 c 3).trans (finalA_in m ρ c 3 rfl), (h.1 c 4).trans (finalA_in m ρ c 4 rfl)⟩, h.2⟩) (run_main m ρ)

end Cert.Butterfly

end
-- ==== Proof.Frames.lean ====
/-
  The runs of both prints of the kernel: the print with its constant named, at the extended reals, and the kernel as it
  is, on bits, which is the other print read with the named constant at its own bits.
-/
module

public import proofs.«01_k».proof.Defs
public import proofs.«01_k».proof.Proof.Gen.Kernel
public import proofs.«01_k».proof.Proof.Run

@[expose] public section

set_option maxRecDepth 16384

noncomputable section

namespace Cert.Butterfly

open Idealize.ShloMosaic Idealize.ShloMosaic.TcCoe Idealize.SL.Sem

/-- On bits a named constant is the bits it stands for. -/
local instance namedBits : Named Bits where
  named _ _ {φ} b := Scalar.ofBits φ b

/-- The kernel at the extended reals runs from any memory, keeps its arguments, and leaves every counter at zero. -/
theorem frame_kernelIdeal : Cert.quiescent_KernelIdeal := fun m ρ _ => run_frame (F := Ideal) m ρ

/-- The two prints have the same kernel body, -/
theorem body_eq : Cert.Kernel.cc0_body (F := Bits) = Cert.KernelIdeal.cc0_body (F := Bits) := rfl
theorem defs₀_eq : Cert.Kernel.defs₀ (F := Bits) = Cert.KernelIdeal.defs₀ (F := Bits) := by
  unfold Cert.Kernel.defs₀ Cert.KernelIdeal.defs₀
  refine congrArg Defs.onTc ?_
  funext l a
  fin_cases l
  rfl
/-- and the same body table. -/
theorem defs_eq : Cert.Kernel.defs (F := Bits) = Cert.KernelIdeal.defs (F := Bits) :=
  congrArg (Pipeline.defs Cert.Kernel.pcfgs) defs₀_eq

/-- The kernel on bits runs from any memory, keeps its arguments, and leaves every counter at zero. -/
theorem frame_kernel : Cert.quiescent_Kernel := fun m ρ _ => by
  rw [defs_eq]
  exact run_frame (F := Bits) m ρ

end Cert.Butterfly

end
-- ==== Proof.Reference.lean ====
/-
  The reference is one straight line of host operations: it runs from any memory, leaves its arguments as they were, and
  declares no semaphore.
-/
module

public import proofs.«01_k».proof.Defs
public import proofs.«01_k».proof.Proof.Gen.ReferenceIdeal.Run
public import Idealize.ShloMosaic.Lib.Claim

@[expose] public section

noncomputable section

namespace Cert.Butterfly

open Idealize.ShloMosaic Idealize.SL.Sem Cert.ReferenceIdeal

attribute [local instance] Cert.ReferenceIdeal.Gen.facts

/-- The reference terminates from any memory with its arguments unchanged and every semaphore counter zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Butterfly

end
-- ==== Proof.KernelRun.lean ====
/-
  What the run leaves behind: a device's result is the combined rows times the output matrix, computed from copies that
  are the arguments themselves.
-/
module

public import proofs.«01_k».proof.Proof.Run
public import Idealize.ShloMosaic.Lib.Pipeline.ValueKit

@[expose] public section

set_option maxRecDepth 16384

noncomputable section

namespace Cert.Butterfly

open Cert.KernelIdeal Cert.KernelIdeal.Gen
open Idealize.ShloMosaic
open Idealize.ShloMosaic.TcCoe Idealize.SL.Sem
open Idealize.ShloMosaic.Pointwise

variable {F : FTy → Type} [FloatOps F] [Named F] (m : (ℓ : Loc nD τ sig) → Buf (Elt F) ℓ) (ρ : Dev nD → PrngReg)

/-! ## A device's copies of the arguments are the arguments -/

/-- The inputs, -/
theorem stg0_eq (c : Dev nD) : stg0 m ρ c = m ((c : Thread nD τ).loc main_arg0) := by
  have h : ∀ a, win0_0.index (0 : Fin 1) a = 0 := by decide
  blk_ext! [stg0, s₀, h]
/-- the query matrix, -/
theorem stg1_eq (c : Dev nD) : stg1 m ρ c = m ((c : Thread nD τ).loc main_arg1) := by
  have h : ∀ a, win0_1.index (0 : Fin 1) a = 0 := by decide
  blk_ext! [stg1, s₀, h]
/-- its keys, -/
theorem stg2_eq (c : Dev nD) : stg2 m ρ c = m ((c : Thread nD τ).loc main_arg2) := by
  have h : ∀ a, win0_2.index (0 : Fin 1) a = 0 := by decide
  blk_ext! [stg2, s₀, h]
/-- its values, -/
theorem stg3_eq (c : Dev nD) : stg3 m ρ c = m ((c : Thread nD τ).loc main_arg3) := by
  have h : ∀ a, win0_3.index (0 : Fin 1) a = 0 := by decide
  blk_ext! [stg3, s₀, h]
/-- and the output matrix. -/
theorem stg4_eq (c : Dev nD) : stg4 m ρ c = m ((c : Thread nD τ).loc main_arg4) := by
  have h : ∀ a, win0_4.index (0 : Fin 1) a = 0 := by decide
  blk_ext! [stg4, s₀, h]

/-- After the run the result holds what the body stores. -/
theorem final_out (c : Dev nD) : (dats m ρ 0 c).arrAt 5 cfg0.N = outAt m ρ c := by
  refine (dats m ρ 0 c).arrAt_eq_of_after_last 5 t0_0 (by decide +kernel) _ fun j => ?_
  blk_simp
  rfl

end Cert.Butterfly

end
-- ==== Proof.HeadSums.lean ====
/-
  What a device adds up over its own keys, read element by element at the extended reals: per head and query the sum
  of the weights, and per column of the head the sum of the weighted values.
-/
module

public import proofs.«01_k».proof.Proof.Contents
public import Idealize.ShloMosaic.Lib.Pointwise

@[expose] public section

set_option maxRecDepth 16384

noncomputable section

namespace Cert.Butterfly

open Cert.KernelIdeal Cert.KernelIdeal.Gen
open Idealize.ShloMosaic
open Idealize.ShloMosaic.Pointwise

/-- A device's block of keys, or of values. -/
abbrev Block : Type := Vec Ideal S1x4096x8x128 .bf16

variable (x : Vec Ideal S1x256x1024 .bf16) (wq : Vec Ideal S1024x1024 .bf16) (k v : Block)

/-- Head `h` of a block, as it is loaded. -/
theorem kHead_apply (h : Fin 8) (j : Fin 4096) (d : Fin 128) :
    kHead (F := Ideal) k h (ix4 (0 : Fin 1) j (0 : Fin 1) d) = k (ix4 (0 : Fin 1) j h d) := by
  refine congrArg k (funext fun a => Fin.ext ?_)
  show (![0, 0, h.val, 0] : Fin 4 → ℕ) a + 1 * (ix4 (0 : Fin 1) j (0 : Fin 1) d a).val = _
  fin_cases a <;> simp
theorem vHead_apply (h : Fin 8) (j : Fin 4096) (d : Fin 128) :
    vHead (F := Ideal) v h (ix4 (0 : Fin 1) j (0 : Fin 1) d) = v (ix4 (0 : Fin 1) j h d) :=
  kHead_apply v h j d

/-- The named constant of the pairs left out is −∞. -/
theorem named_mask : Named.named (F := Ideal) κ (φ := .f32) "mask" 0xF149F2CA#32 = (⊥ : EReal) := rfl

/-- The score of query `q` and the device's key `j` in head `h`: −∞ for a pair that the pattern leaves out. -/
def localScore (h : Fin 8) (q : Fin 256) (j : Fin 4096) : EReal :=
  if kept (ix2 q j) = 1#1 then ∑ d : Fin 128, qry (F := Ideal) x wq (ix3 q h d) * k (ix4 (0 : Fin 1) j h d) else ⊥

/-- The weights of head `h` and query `q` summed over the device's keys, -/
def weightSum (h : Fin 8) (q : Fin 256) : EReal := ∑ j : Fin 4096, Ideal.exp (localScore x wq k h q j)

/-- and the values in column `d` of the head, each times its weight, summed over them. -/
def valueSum (h : Fin 8) (q : Fin 256) (d : Fin 128) : EReal :=
  ∑ j : Fin 4096, Ideal.exp (localScore x wq k h q j) * v (ix4 (0 : Fin 1) j h d)

/-- The same sum, the pairs left out written as the program leaves them out. -/
theorem valueSum_eq (h : Fin 8) (q : Fin 256) (d : Fin 128) :
    ∑ j : Fin 4096, Ideal.exp (Scalar.select (kept (ix2 q j))
        (∑ d : Fin 128, qry (F := Ideal) x wq (ix3 q h d) * k (ix4 (0 : Fin 1) j h d)) ⊥) * v (ix4 (0 : Fin 1) j h d)
      = valueSum x wq k v h q d := rfl

/-! ## The first six heads, and what is left of the last two -/

theorem lHead0_apply (q : Fin 256) : lHead0 (F := Ideal) x wq k (ix1 q) = weightSum x wq k 0 q := by
  pointwise [lHead0, k0_pay10, k0_pay9]
  simp only [← kept.eq_1, kHead_apply, named_mask]
  rfl
theorem oHead0_apply (q : Fin 256) (d : Fin 128) :
    oHead0 (F := Ideal) x wq k v (ix2 q d) = valueSum x wq k v 0 q d := by
  pointwise [oHead0, k0_pay11, k0_pay9]
  simp only [← kept.eq_1, kHead_apply, vHead_apply, named_mask]
  rfl
theorem lHead1_apply (q : Fin 256) : lHead1 (F := Ideal) x wq k (ix1 q) = weightSum x wq k 1 q := by
  pointwise [lHead1, k0_pay13, k0_pay12]
  simp only [← kept.eq_1, kHead_apply, named_mask]
  rfl
theorem oHead1_apply (q : Fin 256) (d : Fin 128) :
    oHead1 (F := Ideal) x wq k v (ix2 q d) = valueSum x wq k v 1 q d := by
  pointwise [oHead1, wHead1, k0_pay14, k0_pay12]
  simp only [← kept.eq_1, kHead_apply, vHead_apply, named_mask]
  rfl
theorem lHead2_apply (q : Fin 256) : lHead2 (F := Ideal) x wq k (ix1 q) = weightSum x wq k 2 q := by
  pointwise [lHead2, k0_pay16, k0_pay15]
  simp only [← kept.eq_1, kHead_apply, named_mask]
  rfl
theorem oHead2_apply (q : Fin 256) (d : Fin 128) :
    oHead2 (F := Ideal) x wq k v (ix2 q d) = valueSum x wq k v 2 q d := by
  pointwise [oHead2, k0_pay17, k0_pay15]
  simp only [← kept.eq_1, kHead_apply, vHead_apply, named_mask]
  rfl
theorem lHead3_apply (q : Fin 256) : lHead3 (F := Ideal) x wq k (ix1 q) = weightSum x wq k 3 q := by
  pointwise [lHead3, k0_pay19, k0_pay18]
  simp only [← kept.eq_1, kHead_apply, named_mask]
  rfl
theorem oHead3_apply (q : Fin 256) (d : Fin 128) :
    oHead3 (F := Ideal) x wq k v (ix2 q d) = valueSum x wq k v 3 q d := by
  pointwise [oHead3, k0_pay20, k0_pay18]
  simp only [← kept.eq_1, kHead_apply, vHead_apply, named_mask]
  rfl
theorem lHead4_apply (q : Fin 256) : lHead4 (F := Ideal) x wq k (ix1 q) = weightSum x wq k 4 q := by
  pointwise [lHead4, k0_pay23, k0_pay22, k0_pay21]
  simp only [← kept.eq_1, kHead_apply, named_mask]
  rfl
theorem oHead4_apply (q : Fin 256) (d : Fin 128) :
    oHead4 (F := Ideal) x wq k v (ix2 q d) = valueSum x wq k v 4 q d := by
  pointwise [oHead4, k0_pay24, k0_pay22, k0_pay21]
  simp only [← kept.eq_1, kHead_apply, vHead_apply, named_mask]
  rfl
theorem lHead5_apply (q : Fin 256) : lHead5 (F := Ideal) x wq k (ix1 q) = weightSum x wq k 5 q := by
  pointwise [lHead5, k0_pay26, k0_pay25]
  simp only [← kept.eq_1, kHead_apply, named_mask]
  rfl
theorem oHead5_apply (q : Fin 256) (d : Fin 128) :
    oHead5 (F := Ideal) x wq k v (ix2 q d) = valueSum x wq k v 5 q d := by
  pointwise [oHead5, k0_pay27, k0_pay25]
  simp only [← kept.eq_1, kHead_apply, vHead_apply, named_mask]
  rfl

/-! ## All heads together -/

theorem ownL_apply (h : Fin 8) (q : Fin 256) : ownL (F := Ideal) x wq k (ix2 h q) = weightSum x wq k h q := by
  pointwise [ownL, k0_pay32, k0_pay29, k0_pay30, wHead6, k0_pay28]
  simp only [kHead_apply, named_mask, lHead0_apply, lHead1_apply, lHead2_apply, lHead3_apply, lHead4_apply, lHead5_apply]
  fin_cases h <;> rfl

theorem ownO_apply (q : Fin 256) (n : Fin 1024) :
    ownO (F := Ideal) x wq k v (ix2 q n)
      = valueSum x wq k v ⟨n.val / 128, by omega⟩ q ⟨n.val % 128, by omega⟩ := by
  have at_head (h : Fin 8) (d : Fin 128) (hn : n.val = 128 * h.val + d.val) :
      valueSum x wq k v ⟨n.val / 128, by omega⟩ q ⟨n.val % 128, by omega⟩ = valueSum x wq k v h q d := by
    have e₁ : (⟨n.val / 128, by omega⟩ : Fin 8) = h := Fin.ext (by show n.val / 128 = h.val; omega)
    have e₂ : (⟨n.val % 128, by omega⟩ : Fin 128) = d := Fin.ext (by show n.val % 128 = d.val; omega)
    rw [e₁, e₂]
  pointwise [ownO, k0_pay31, k0_pay29, k0_pay30, wHead6, k0_pay28]
  simp only [kHead_apply, vHead_apply, named_mask, valueSum_eq, oHead0_apply, oHead1_apply, oHead2_apply, oHead3_apply,
    oHead4_apply, oHead5_apply]
  split_ifs <;> refine (at_head _ _ ?_).symm <;> dsimp only [Fin.isValue, Fin.val_ofNat] <;> omega

end Cert.Butterfly

end
-- ==== Proof.Softmax.lean ====
/-
  Weighted averages over extended reals: weights that are exponentials of scores, with or without the largest score
  subtracted first, and normalised before or after the weighted sum.
-/
module

public import Idealize.ShloMosaic.Lib.IdealHost

@[expose] public section

noncomputable section

namespace Cert.Butterfly

open Idealize.ShloMosaic

variable {ι : Type} [Fintype ι]

/-- A finite factor that is not negative moves into a sum. -/
theorem sum_mul_real (f : ι → EReal) {r : ℝ} (hr : 0 ≤ r) : (∑ j, f j) * (r : EReal) = ∑ j, f j * (r : EReal) := by
  classical
  induction (Finset.univ : Finset ι) using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- A sum of reals is real. -/
theorem coe_sum (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A sum of finite products is finite. -/
theorem sum_mul_finite (f g : ι → EReal) (hf : ∀ j, ∃ r : ℝ, f j = r) (hg : ∀ j, ∃ r : ℝ, g j = r) :
    ∃ r : ℝ, ∑ j, f j * g j = r := by
  choose a ha using hf
  choose b hb using hg
  refine ⟨∑ j, a j * b j, ?_⟩
  rw [coe_sum]
  exact Finset.sum_congr rfl fun j _ => by rw [ha, hb, EReal.coe_mul]

/-- The largest of finitely many scores, some of them −∞, one of them not, is finite. -/
theorem max_finite (s : ι → EReal) (hs : ∀ j, s j = ⊥ ∨ ∃ r : ℝ, s j = r) (j₀ : ι) (h₀ : s j₀ ≠ ⊥) :
    ∃ μ : ℝ, Finset.univ.fold max (⊥ : EReal) s = μ := by
  have htop : ∀ x, x ∈ Finset.univ → s x < ⊤ := fun x _ => by
    rcases hs x with h | ⟨r, h⟩ <;> rw [h]
    · exact bot_lt_top
    · exact EReal.coe_lt_top r
  have h1 : Finset.univ.fold max (⊥ : EReal) s < ⊤ := (Finset.fold_max_lt ⊤).2 ⟨bot_lt_top, htop⟩
  have h2 : s j₀ ≤ Finset.univ.fold max (⊥ : EReal) s := (Finset.le_fold_max _).2 (.inr ⟨j₀, Finset.mem_univ _, le_rfl⟩)
  have h3 : Finset.univ.fold max (⊥ : EReal) s ≠ ⊥ := fun h => h₀ (le_bot_iff.1 (h ▸ h2))
  exact ⟨_, (EReal.coe_toReal h1.ne h3).symm⟩

/-- The exponential of −∞ is nothing. -/
theorem exp_bot : Ideal.exp ⊥ = 0 := rfl

/-- The exponential of a score that is finite or −∞, as a real. -/
def expReal (x : EReal) : ℝ := (Ideal.exp x).toReal

theorem expReal_nonneg (x : EReal) : 0 ≤ expReal x := by
  unfold expReal
  induction x with
  | bot => exact le_rfl
  | coe r => exact Real.exp_nonneg r
  | top => exact le_rfl

theorem exp_sub (x : EReal) (hx : x = ⊥ ∨ ∃ r : ℝ, x = r) (μ : ℝ) :
    Ideal.exp (x - μ) = ((expReal x * Real.exp (-μ) : ℝ) : EReal) := by
  rcases hx with rfl | ⟨r, rfl⟩
  · rw [EReal.bot_sub, expReal, exp_bot]
    simp
  · rw [← EReal.coe_sub]
    show ((Real.exp (r - μ) : ℝ) : EReal) = _
    rw [sub_eq_add_neg, Real.exp_add]
    rfl

theorem exp_eq_expReal (x : EReal) (hx : x = ⊥ ∨ ∃ r : ℝ, x = r) : Ideal.exp x = (expReal x : EReal) := by
  rcases hx with rfl | ⟨r, rfl⟩
  · rw [expReal, exp_bot]
    simp
  · rfl

/-- Dividing by a positive real is multiplying by its inverse. -/
theorem div_real (x : EReal) {R : ℝ} (hR : 0 < R) : Ideal.div x R = x * ((R⁻¹ : ℝ) : EReal) := by
  unfold Ideal.div
  rw [if_neg (EReal.coe_ne_zero.2 hR.ne'), EReal.coe_inv]

/-- Weights with the largest score subtracted, each divided by their sum, average the values as the weights without
    the subtraction do, the weighted sum divided by the sum of the weights. -/
theorem softmax_average (s v : ι → EReal) (hs : ∀ j, s j = ⊥ ∨ ∃ r : ℝ, s j = r) (j₀ : ι) (h₀ : s j₀ ≠ ⊥) :
    ∑ j, v j * Ideal.div (Ideal.exp (s j - Finset.univ.fold max (⊥ : EReal) s))
        (∑ i, Ideal.exp (s i - Finset.univ.fold max (⊥ : EReal) s))
      = Ideal.div (∑ j, Ideal.exp (s j) * v j) (∑ j, Ideal.exp (s j)) := by
  obtain ⟨μ, hμ⟩ := max_finite s hs j₀ h₀
  have hpos : 0 < expReal (s j₀) := by
    rcases hs j₀ with h | ⟨r, h⟩
    · exact absurd h h₀
    · rw [h]; exact Real.exp_pos r
  have hR : 0 < ∑ j, expReal (s j) :=
    Finset.sum_pos' (fun j _ => expReal_nonneg _) ⟨j₀, Finset.mem_univ _, hpos⟩
  have hW : ∑ i, Ideal.exp (s i - (μ : EReal)) = (((∑ j, expReal (s j)) * Real.exp (-μ) : ℝ) : EReal) := by
    rw [Finset.sum_mul, coe_sum]
    exact Finset.sum_congr rfl fun j _ => exp_sub _ (hs j) μ
  have hE : ∑ j, Ideal.exp (s j) = ((∑ j, expReal (s j) : ℝ) : EReal) := by
    rw [coe_sum]
    exact Finset.sum_congr rfl fun j _ => exp_eq_expReal _ (hs j)
  rw [hμ, hW, hE, div_real _ hR, sum_mul_real _ (inv_nonneg.2 hR.le)]
  refine Finset.sum_congr rfl fun j _ => ?_
  rw [exp_sub _ (hs j), div_real _ (mul_pos hR (Real.exp_pos _)), exp_eq_expReal _ (hs j), ← EReal.coe_mul, mul_comm _ (v j),
    mul_assoc (v j), ← EReal.coe_mul]
  congr 2
  have := (Real.exp_pos (-μ)).ne'
  field_simp

/-! ## The scale -/

/-- The factor of the scores, as the programs write it. -/
abbrev scale : EReal := Ideal.ofBits .f32 0x3DB504F3#32

/-- The factor of the scores is a finite number that is not negative. -/
theorem scale_real : ∃ r : ℝ, 0 ≤ r ∧ scale = r := by
  refine ⟨_, ?_, by simp only [scale, Ideal.ofBits, Ideal.ieee]; rw [if_neg (by decide), if_neg (by decide)]⟩
  rw [if_neg (by decide)]
  positivity

/-- Scaling the queries is scaling the scores. -/
theorem scaled_score (f g : ι → EReal) : ∑ j, f j * scale * g j = (∑ j, f j * g j) * scale := by
  obtain ⟨r, hr, he⟩ := scale_real
  rw [he, sum_mul_real _ hr]
  exact Finset.sum_congr rfl fun j _ => by rw [mul_assoc, mul_comm _ (g j), ← mul_assoc]

end Cert.Butterfly

end
-- ==== Proof.Attention.lean ====
/-
  The quantities both programs compute, at the extended reals: queries, scores under the block pattern, and the sums of
  weights and of weighted values over the keys.
-/
module

public import proofs.«01_k».proof.Proof.Softmax
public import Idealize.ShloMosaic.Lib.Pointwise

@[expose] public section

noncomputable section

namespace Cert.Butterfly

open Idealize.ShloMosaic
open Idealize.ShloMosaic.Pointwise

variable (x : Vec Ideal ⟨3, ![1, 256, 1024]⟩ .bf16) (wq : Vec Ideal ⟨2, ![1024, 1024]⟩ .bf16)
  (k v : Vec Ideal ⟨4, ![1, 32768, 8, 128]⟩ .bf16)

/-- Query `q` before scaling, its column `n` over all heads. -/
def query (q : Fin 256) (n : Fin 1024) : EReal :=
  ∑ t : Fin 1024, x (ix3 (0 : Fin 1) q t) * wq (ix2 t n)

/-- The column at place `d` of head `h`. -/
def headCol (h : Fin 8) (d : Fin 128) : Fin 1024 := ⟨h.val * 128 + d.val, by omega⟩

/-- The score of query `q` and key `j` in head `h`: −∞ for a pair that the pattern leaves out. -/
def score (h : Fin 8) (q : Fin 256) (j : Fin 32768) : EReal :=
  if j.val / 64 % 4 = q.val / 64 then
    (∑ d : Fin 128, query x wq q (headCol h d) * k (ix4 (0 : Fin 1) j h d)) * scale
  else ⊥

/-- Attention: column `d` of head `h` of the values, averaged with the weights of query `q`. -/
def average (h : Fin 8) (q : Fin 256) (d : Fin 128) : EReal :=
  Ideal.div (∑ j : Fin 32768, Ideal.exp (score x wq k h q j) * v (ix4 (0 : Fin 1) j h d))
    (∑ j : Fin 32768, Ideal.exp (score x wq k h q j))

/-- Where the inputs of the scores are finite, a score is −∞ only for a pair left out, and otherwise finite. -/
theorem score_finite (hx : ∀ i, ∃ r : ℝ, x i = (r : EReal)) (hwq : ∀ i, ∃ r : ℝ, wq i = (r : EReal))
    (hk : ∀ i, ∃ r : ℝ, k i = (r : EReal)) (h : Fin 8) (q : Fin 256) (j : Fin 32768) (hj : j.val / 64 % 4 = q.val / 64) :
    ∃ r : ℝ, score x wq k h q j = r := by
  obtain ⟨a, ha⟩ := sum_mul_finite (fun d : Fin 128 => query x wq q (headCol h d)) (fun d => k (ix4 (0 : Fin 1) j h d))
    (fun d => sum_mul_finite _ _ (fun _ => hx _) fun _ => hwq _) fun _ => hk _
  obtain ⟨s, -, hs⟩ := scale_real
  exact ⟨a * s, by unfold score; rw [if_pos hj, ha, hs, EReal.coe_mul]⟩

/-- The weights written with the largest score subtracted and divided by their sum first give the same average. -/
theorem average_eq (hx : ∀ i, ∃ r : ℝ, x i = (r : EReal)) (hwq : ∀ i, ∃ r : ℝ, wq i = (r : EReal))
    (hk : ∀ i, ∃ r : ℝ, k i = (r : EReal)) (h : Fin 8) (q : Fin 256) (d : Fin 128) :
    ∑ j : Fin 32768, v (ix4 (0 : Fin 1) j h d)
        * Ideal.div (Ideal.exp (score x wq k h q j - Finset.univ.fold max (⊥ : EReal) (score x wq k h q)))
            (∑ i, Ideal.exp (score x wq k h q i - Finset.univ.fold max (⊥ : EReal) (score x wq k h q)))
      = average x wq k v h q d := by
  refine softmax_average (score x wq k h q) (fun j => v (ix4 (0 : Fin 1) j h d)) (fun j => ?_) ⟨q.val / 64 * 64, by omega⟩ ?_
  · by_cases hj : j.val / 64 % 4 = q.val / 64
    · exact .inr (score_finite x wq k hx hwq hk h q j hj)
    · exact .inl (if_neg hj)
  · obtain ⟨r, hr⟩ := score_finite x wq k hx hwq hk h q ⟨q.val / 64 * 64, by omega⟩
      (by show q.val / 64 * 64 / 64 % 4 = q.val / 64; omega)
    rw [hr]
    exact EReal.coe_ne_bot r

end Cert.Butterfly

end
-- ==== Proof.KernelValue.lean ====
/-
  The kernel's result read element by element at the extended reals.
-/
module

public import proofs.«01_k».proof.Proof.HeadSums
public import proofs.«01_k».proof.Proof.Attention

@[expose] public section

set_option maxRecDepth 16384

noncomputable section

namespace Cert.Butterfly

open Cert.KernelIdeal Cert.KernelIdeal.Gen
open Idealize.ShloMosaic
open Idealize.ShloMosaic.Pointwise

/-! ## Queries and pattern -/

/-- The scaled queries. -/
theorem qry_apply (x : Vec Ideal S1x256x1024 .bf16) (wq : Vec Ideal S1024x1024 .bf16) (q : Fin 256) (h : Fin 8)
    (d : Fin 128) : qry (F := Ideal) x wq (ix3 q h d) = query x wq q (headCol h d) * scale := by
  pointwise [qry, k0_pay2, query, headCol]

/-- A word divided by 64 and rounded down, as the kernel writes it, -/
def blockWord (n : BitVec 32) : BitVec 32 :=
  Scalar.select
    (IntOp.andi
      (IntOp.cmpi .ne
        (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)

/-- and the remainder of a word by four. -/
def fourWord (n : BitVec 32) : BitVec 32 :=
  let d := Scalar.select (Scalar.cmpi .eq 4#32 0#32) 1#32 4#32
  let r := IntOp.remsi .vector n d
  Scalar.select (IntOp.andi (IntOp.xori (IntOp.cmpi .slt r 0#32) (Scalar.cmpi .slt d 0#32)) (IntOp.cmpi .ne r 0#32))
    (IntOp.addi r d) r

theorem blockWord_row : ∀ q : Fin 256, blockWord (BitVec.ofNat 32 q.val) = BitVec.ofNat 32 (q.val / 64) := by
  decide +kernel
theorem fourWord_col : ∀ j : Fin 4096, fourWord (blockWord (BitVec.ofNat 32 j.val)) = BitVec.ofNat 32 (j.val / 64 % 4) := by
  decide +kernel

/-- Two of the four blocks of queries are the same when their words are. -/
theorem word_eq_iff {a b : ℕ} (ha : a < 4) (hb : b < 4) :
    IntOp.cmpi .eq (BitVec.ofNat 32 a) (BitVec.ofNat 32 b) = 1#1 ↔ a = b := by
  interval_cases a <;> interval_cases b <;> decide

/-- The pattern keeps a pair when the key's block and the query's block agree up to a multiple of four. -/
theorem kept_apply (q : Fin 256) (j : Fin 4096) : kept (ix2 q j) = 1#1 ↔ j.val / 64 % 4 = q.val / 64 := by
  have h : kept (ix2 q j)
      = IntOp.cmpi .eq (fourWord (blockWord (BitVec.ofNat 32 j.val))) (blockWord (BitVec.ofNat 32 q.val)) := by
    pointwise [kept, rowNo, colNo, k0_pay8, k0_pay7, k0_pay6, k0_pay5, k0_pay4, k0_pay3]
    rfl
  rw [h, fourWord_col, blockWord_row, word_eq_iff (by omega) (by omega)]

/-! ## The exchanges -/

theorem oLift_apply (w : Vec Ideal S256x1024 .bf16) (q : Fin 256) (n : Fin 1024) :
    oLift (F := Ideal) w (ix3 (0 : Fin 1) q n) = w (ix2 q n) := by
  have h : shapeCast S256x1024 (oLift (F := Ideal) w) shapeCasts_S1x256x1024_S256x1024 = w :=
    funext fun i => congrArg w (Equiv.symm_apply_apply _ _)
  have h' := congrFun h (ix2 q n)
  pointwise at h'
  exact h'
theorem lLift_apply (w : Vec Ideal S8x256 .f32) (h : Fin 8) (q : Fin 256) :
    lLift (F := Ideal) w (ix3 (0 : Fin 1) h q) = w (ix2 h q) := by
  have e : shapeCast S8x256 (lLift (F := Ideal) w) shapeCasts_S1x8x256_S8x256 = w :=
    funext fun i => congrArg w (Equiv.symm_apply_apply _ _)
  have e' := congrFun e (ix2 h q)
  pointwise at e'
  exact e'

/-- Exchanging with the three partners in turn adds up what all eight devices hold. -/
theorem sum_peers (f : Dev nD → EReal) (c : Dev nD) :
    f c + f (peer 0 c) + (f (peer 1 c) + f (peer 0 (peer 1 c)))
        + (f (peer 2 c) + f (peer 0 (peer 2 c)) + (f (peer 1 (peer 2 c)) + f (peer 0 (peer 1 (peer 2 c)))))
      = ∑ c : Fin 8, f c := by
  have h0 (c : Dev nD) : peer 0 c = ![1, 0, 3, 2, 5, 4, 7, 6] c := by revert c; decide
  have h1 (c : Dev nD) : peer 1 c = ![2, 3, 0, 1, 6, 7, 4, 5] c := by revert c; decide
  have h2 (c : Dev nD) : peer 2 c = ![4, 5, 6, 7, 0, 1, 2, 3] c := by revert c; decide
  rw [Fin.sum_univ_eight]
  simp only [h0, h1, h2]
  match c with
  | 0 | 1 | 2 | 3 | 4 | 5 | 6 | 7 => simp; ac_rfl

variable (m : (ℓ : Loc nD τ sig) → Buf (Elt Ideal) ℓ) (ρ : Dev nD → PrngReg)

theorem sentO0_apply (c : Dev nD) (q : Fin 256) (n : Fin 1024) : sentO0 m ρ c (ix2 q n) = accO0 m ρ c (ix2 q n) := by
  simp only [sentO0, accO0, ownOSent, ownO]
  pointwise [k0_pay33]
theorem accO1_apply (c : Dev nD) (q : Fin 256) (n : Fin 1024) :
    accO1 m ρ c (ix2 q n) = accO0 m ρ c (ix2 q n) + accO0 m ρ (peer 0 c) (ix2 q n) := by
  pointwise [accO1, k0_pay35]
  rw [oLift_apply, sentO0_apply]
theorem sentO1_apply (c : Dev nD) (q : Fin 256) (n : Fin 1024) :
    sentO1 m ρ c (ix2 q n) = accO0 m ρ c (ix2 q n) + accO0 m ρ (peer 0 c) (ix2 q n) := by
  pointwise [sentO1, k0_pay37, k0_pay35]
  rw [oLift_apply, sentO0_apply]
theorem accO2_apply (c : Dev nD) (q : Fin 256) (n : Fin 1024) :
    accO2 m ρ c (ix2 q n) = accO0 m ρ c (ix2 q n) + accO0 m ρ (peer 0 c) (ix2 q n)
      + (accO0 m ρ (peer 1 c) (ix2 q n) + accO0 m ρ (peer 0 (peer 1 c)) (ix2 q n)) := by
  pointwise [accO2, k0_pay39]
  rw [oLift_apply, sentO1_apply, accO1_apply]
theorem sentO2_apply (c : Dev nD) (q : Fin 256) (n : Fin 1024) :
    sentO2 m ρ c (ix2 q n) = accO0 m ρ c (ix2 q n) + accO0 m ρ (peer 0 c) (ix2 q n)
      + (accO0 m ρ (peer 1 c) (ix2 q n) + accO0 m ρ (peer 0 (peer 1 c)) (ix2 q n)) := by
  pointwise [sentO2, k0_pay41, k0_pay39]
  rw [oLift_apply, sentO1_apply, accO1_apply]

theorem sentL0_apply (c : Dev nD) (h : Fin 8) (q : Fin 256) : sentL0 m ρ c (ix2 h q) = accL0 m ρ c (ix2 h q) := by
  pointwise [sentL0, k0_pay34]
theorem accL1_apply (c : Dev nD) (h : Fin 8) (q : Fin 256) :
    accL1 m ρ c (ix2 h q) = accL0 m ρ c (ix2 h q) + accL0 m ρ (peer 0 c) (ix2 h q) := by
  pointwise [accL1, k0_pay36]
  rw [lLift_apply, sentL0_apply]
theorem sentL1_apply (c : Dev nD) (h : Fin 8) (q : Fin 256) :
    sentL1 m ρ c (ix2 h q) = accL0 m ρ c (ix2 h q) + accL0 m ρ (peer 0 c) (ix2 h q) := by
  pointwise [sentL1, k0_pay38, k0_pay36]
  rw [lLift_apply, sentL0_apply]
theorem accL2_apply (c : Dev nD) (h : Fin 8) (q : Fin 256) :
    accL2 m ρ c (ix2 h q) = accL0 m ρ c (ix2 h q) + accL0 m ρ (peer 0 c) (ix2 h q)
      + (accL0 m ρ (peer 1 c) (ix2 h q) + accL0 m ρ (peer 0 (peer 1 c)) (ix2 h q)) := by
  pointwise [accL2, k0_pay40]
  rw [lLift_apply, sentL1_apply, accL1_apply]
theorem sentL2_apply (c : Dev nD) (h : Fin 8) (q : Fin 256) :
    sentL2 m ρ c (ix2 h q) = accL0 m ρ c (ix2 h q) + accL0 m ρ (peer 0 c) (ix2 h q)
      + (accL0 m ρ (peer 1 c) (ix2 h q) + accL0 m ρ (peer 0 (peer 1 c)) (ix2 h q)) := by
  pointwise [sentL2, k0_pay42, k0_pay40]
  rw [lLift_apply, sentL1_apply, accL1_apply]

/-- A device's result: all devices' weighted values divided by all devices' weights, times the output matrix. -/
theorem outAt_apply (c : Dev nD) (q : Fin 256) (n : Fin 1024) :
    outAt m ρ c (ix3 (0 : Fin 1) q n)
      = (∑ k : Fin 1024, Ideal.div (∑ c : Fin 8, accO0 m ρ c (ix2 q k))
          (∑ c : Fin 8, accL0 m ρ c (ix2 (⟨k.val / 128, by omega⟩ : Fin 8) q)) * stg4 m ρ c (ix2 k n) : EReal) := by
  pointwise [outAt, k0_pay1]
  refine Finset.sum_congr (M := EReal) rfl fun k _ => ?_
  rw [oLift_apply, lLift_apply, accO2_apply, sentO2_apply, accL2_apply, sentL2_apply, sum_peers (fun c => accO0 m ρ c (ix2 q k)) c,
    sum_peers (fun c => accL0 m ρ c (ix2 (⟨k.val / 128, by omega⟩ : Fin 8) q)) c]

end Cert.Butterfly

end
-- ==== Proof.Blocks.lean ====
/-
  The keys and values cut over the devices: what a device adds up over its block is the part of the whole sum that falls
  to its keys, so the devices' sums add up to the sums over all keys, and the kernel's result is attention times the
  output matrix.
-/
module

public import proofs.«01_k».proof.Proof.KernelValue
public import Idealize.ShloMosaic.Lib.LayoutAt

@[expose] public section

set_option maxRecDepth 16384

noncomputable section

namespace Cert.Butterfly

open Cert.KernelIdeal Cert.KernelIdeal.Gen
open Idealize.ShloMosaic
open Idealize.ShloMosaic.TcCoe
open Idealize.ShloMosaic.Pointwise

/-- All keys, or all values. -/
abbrev Whole : Type := Vec Ideal ⟨4, ![1, 32768, 8, 128]⟩ .bf16

/-- Device `c`'s block of them. -/
def part (K : Whole) (c : Fin 8) : Block := Layout.block ⟨4, ![1, 4096, 8, 128]⟩ ⟨4, ![1, 32768, 8, 128]⟩ 1 8 c K

/-- Key `j` of device `c`, counted over all devices. -/
def globalKey (c : Fin 8) (j : Fin 4096) : Fin 32768 := ⟨c.val * 4096 + j.val, by omega⟩

theorem part_apply (K : Whole) (c : Fin 8) (j : Fin 4096) (h : Fin 8) (d : Fin 128) :
    part K c (ix4 (0 : Fin 1) j h d) = K (ix4 (0 : Fin 1) (globalKey c j) h d) := by
  refine congrArg K (funext fun a => Fin.ext ?_)
  fin_cases a <;> rfl

/-- Every key is some device's. -/
theorem part_surj (K : Whole) (i : (⟨4, ![1, 32768, 8, 128]⟩ : Shape).Idx) : ∃ c j, K i = part K c j := by
  have h1 : (i 1).val < 32768 := (i 1).isLt
  refine ⟨⟨(i 1).val / 4096, by omega⟩, ix4 (0 : Fin 1) (⟨(i 1).val % 4096, by omega⟩ : Fin 4096) (i 2) (i 3), ?_⟩
  refine (congrArg K (funext fun a => Fin.ext ?_)).trans (part_apply K _ _ _ _).symm
  have h0 : (i 0).val < 1 := (i 0).isLt
  fin_cases a
  · show (i 0).val = 0
    omega
  · show (i 1).val = (i 1).val / 4096 * 4096 + (i 1).val % 4096
    omega
  · rfl
  · rfl

variable (x : Vec Ideal S1x256x1024 .bf16) (wq : Vec Ideal S1024x1024 .bf16) (k v : Whole)

/-- The score of a device's key is the score of that key among all. -/
theorem localScore_part (c : Fin 8) (h : Fin 8) (q : Fin 256) (j : Fin 4096) :
    localScore x wq (part k c) h q j = score x wq k h q (globalKey c j) := by
  unfold localScore score
  refine if_congr ((kept_apply q j).trans ?_) ?_ rfl
  · show j.val / 64 % 4 = q.val / 64 ↔ (c.val * 4096 + j.val) / 64 % 4 = q.val / 64
    omega
  · simp only [qry_apply, part_apply, scaled_score]

/-- The devices' sums of weights add up to the sum over all keys, -/
theorem sum_weightSum (h : Fin 8) (q : Fin 256) :
    ∑ c : Fin 8, weightSum x wq (part k c) h q = ∑ j : Fin 32768, Ideal.exp (score x wq k h q j) := by
  rw [Fin.sum_univ_tiles 8 4096 rfl]
  simp only [weightSum, localScore_part]
  rfl

/-- and so do the sums of weighted values. -/
theorem sum_valueSum (h : Fin 8) (q : Fin 256) (d : Fin 128) :
    ∑ c : Fin 8, valueSum x wq (part k c) (part v c) h q d
      = ∑ j : Fin 32768, Ideal.exp (score x wq k h q j) * v (ix4 (0 : Fin 1) j h d) := by
  rw [Fin.sum_univ_tiles 8 4096 rfl]
  simp only [valueSum, localScore_part, part_apply]
  rfl

/-- A device's result, when the devices hold copies of the inputs and of the matrices and the blocks of the keys and the
    values: attention over all keys, times the output matrix. -/
theorem outAt_whole (m : (ℓ : Loc nD τ sig) → Buf (Elt Ideal) ℓ) (ρ : Dev nD → PrngReg) (wo : Vec Ideal S1024x1024 .bf16)
    (hx : ∀ c, stg0 m ρ c = x) (hwq : ∀ c, stg1 m ρ c = wq) (hk : ∀ c, stg2 m ρ c = part k c)
    (hv : ∀ c, stg3 m ρ c = part v c) (hwo : ∀ c, stg4 m ρ c = wo) (c : Dev nD) (q : Fin 256) (n : Fin 1024) :
    outAt m ρ c (ix3 (0 : Fin 1) q n)
      = (∑ t : Fin 1024, average x wq k v ⟨t.val / 128, by omega⟩ q ⟨t.val % 128, by omega⟩ * wo (ix2 t n) : EReal) := by
  rw [outAt_apply, hwo]
  refine Finset.sum_congr (M := EReal) rfl fun t _ => ?_
  have hO : ∀ c, accO0 m ρ c (ix2 q t)
      = valueSum x wq (part k c) (part v c) ⟨t.val / 128, by omega⟩ q ⟨t.val % 128, by omega⟩ := fun c => by
    rw [accO0, hx, hwq, hk, hv, ownO_apply]
  have hL : ∀ c, accL0 m ρ c (ix2 (⟨t.val / 128, by omega⟩ : Fin 8) q)
      = weightSum x wq (part k c) ⟨t.val / 128, by omega⟩ q := fun c => by
    rw [accL0, hx, hwq, hk, ownL_apply]
  rw [Finset.sum_congr (M := EReal) rfl fun c _ => hO c, Finset.sum_congr (M := EReal) rfl fun c _ => hL c,
    sum_valueSum, sum_weightSum]
  rfl

end Cert.Butterfly

end
-- ==== Proof.RefPattern.lean ====
/-
  The reference's pattern read element by element: which pairs of query and key it keeps.
-/
module

public import proofs.«01_k».proof.Proof.Gen.ReferenceIdeal.Read
public import Idealize.ShloMosaic.Lib.Pointwise
public import Idealize.ShloMosaic.Lib.Routing.OpsOrder

@[expose] public section

set_option maxRecDepth 16384

noncomputable section

namespace Cert.Butterfly

open Cert.ReferenceIdeal Cert.ReferenceIdeal.Gen Cert.ReferenceIdeal.Read
open Idealize.ShloMosaic
open Idealize.ShloMosaic.Pointwise

/-! ## The pattern -/

/-- The sign of a word. -/
def signWord (n : BitVec 32) : BitVec 32 := if n = 0 then 0 else if n.msb = true then -1 else 1

/-- A word divided by 64 and rounded down, as the reference writes it, -/
def refBlockWord (n : BitVec 32) : BitVec 32 :=
  Scalar.select
    (IntOp.andi (IntOp.cmpi .ne (signWord n) (signWord 64#32)) (IntOp.cmpi .ne (IntOp.remsi .host n 64#32) 0#32))
    (IntOp.subi (IntOp.divsi .host n 64#32) 1#32) (IntOp.divsi .host n 64#32)

/-- and the remainder of a word by four. -/
def refFourWord (n : BitVec 32) : BitVec 32 :=
  let d := Scalar.select (IntOp.cmpi .eq 4#32 0#32) 1#32 4#32
  let r := IntOp.remsi .host n d
  Scalar.select (IntOp.andi (IntOp.cmpi .ne (IntOp.cmpi .slt r 0#32) (IntOp.cmpi .slt d 0#32)) (IntOp.cmpi .ne r 0#32))
    (IntOp.addi r d) r

theorem refBlockWord_eq : ∀ j : Fin 32768, refBlockWord (BitVec.ofNat 32 j.val) = BitVec.ofNat 32 (j.val / 64) := by
  decide +kernel
theorem refFourWord_eq : ∀ b : Fin 512, refFourWord (BitVec.ofNat 32 b.val) = BitVec.ofNat 32 (b.val % 4) := by
  decide +kernel

/-- The block of a query, -/
theorem rowBlock_apply (q : Fin 256) : val_main_v4 (F := Ideal) (ix1 q) = BitVec.ofNat 32 (q.val / 64) := by
  pointwise [val_main_v4, val_main_call0_v0, val_main_call0_v1, val_main_call0_v2, val_main_call0_v3, val_main_call0_v4,
    val_main_call0_v5, val_main_call0_v6, val_main_call0_v7, val_main_call0_v8, val_main_call0_v9, val_main_call0_v10,
    val_main_call0_v11, val_main_call0_v12, val_main_call0_v13, val_main_call0_c, val_main_call0_c_0, val_main_c,
    val_main_v3]
  exact refBlockWord_eq ⟨q.val, by omega⟩
/-- the block of a key, -/
theorem colBlock_apply (j : Fin 32768) : val_main_v7 (F := Ideal) (ix1 j) = BitVec.ofNat 32 (j.val / 64) := by
  pointwise [val_main_v7, val_main_call1_v0, val_main_call1_v1, val_main_call1_v2, val_main_call1_v3, val_main_call1_v4,
    val_main_call1_v5, val_main_call1_v6, val_main_call1_v7, val_main_call1_v8, val_main_call1_v9, val_main_call1_v10,
    val_main_call1_v11, val_main_call1_v12, val_main_call1_v13, val_main_call1_c, val_main_call1_c_0, val_main_c_0,
    val_main_v6]
  exact refBlockWord_eq j
/-- and both up to a multiple of four. -/
theorem colFour_apply (j : Fin 32768) :
    val_main_v12 (F := Ideal) (ix2 (0 : Fin 1) j) = BitVec.ofNat 32 (j.val / 64 % 4) := by
  have h8 : val_main_v8 (F := Ideal) (ix2 (0 : Fin 1) j) = BitVec.ofNat 32 (j.val / 64) := by
    pointwise [val_main_v8]
    exact colBlock_apply j
  pointwise [val_main_v12, val_main_call2_v0, val_main_call2_v1, val_main_call2_v2, val_main_call2_v3, val_main_call2_v4,
    val_main_call2_v5, val_main_call2_v6, val_main_call2_v7, val_main_call2_v8, val_main_call2_v9, val_main_call2_v10,
    val_main_call2_v11, val_main_call2_v12, val_main_call2_v13, val_main_call2_v14, val_main_call2_c, val_main_call2_c_0,
    val_main_call2_c_1, val_main_call2_c_2, val_main_call2_c_3, val_main_c_1]
  rw [h8]
  exact refFourWord_eq ⟨j.val / 64, by omega⟩
theorem rowFour_apply (q : Fin 256) :
    val_main_v13 (F := Ideal) (ix2 q (0 : Fin 1)) = BitVec.ofNat 32 (q.val / 64 % 4) := by
  have h5 : val_main_v5 (F := Ideal) (ix2 q (0 : Fin 1)) = BitVec.ofNat 32 (q.val / 64) := by
    pointwise [val_main_v5]
    exact rowBlock_apply q
  pointwise [val_main_v13, val_main_call3_v0, val_main_call3_v1, val_main_call3_v2, val_main_call3_v3, val_main_call3_v4,
    val_main_call3_v5, val_main_call3_v6, val_main_call3_v7, val_main_call3_v8, val_main_call3_v9, val_main_call3_v10,
    val_main_call3_v11, val_main_call3_v12, val_main_call3_v13, val_main_call3_v14, val_main_call3_c, val_main_call3_c_0,
    val_main_call3_c_1, val_main_call3_c_2, val_main_call3_c_3, val_main_c_2]
  rw [h5]
  exact refFourWord_eq ⟨q.val / 64, by omega⟩

/-- Words of small numbers are equal when the numbers are. -/
theorem small_word_eq {a b : ℕ} (ha : a < 512) (hb : b < 512) : BitVec.ofNat 32 a = BitVec.ofNat 32 b ↔ a = b := by
  rw [← BitVec.toNat_inj, BitVec.toNat_ofNat, BitVec.toNat_ofNat]
  omega

theorem ori_cmpi_eq (a b c d : BitVec 32) :
    IntOp.ori (IntOp.cmpi .eq a b) (IntOp.cmpi .eq c d) = 1#1 ↔ a = b ∨ c = d := by
  have e (x y : BitVec 32) : IntOp.cmpi .eq x y = if x = y then 1#1 else 0#1 := by
    by_cases h : x = y
    · rw [if_pos h, h]; simp [IntOp.cmpi]
    · rw [if_neg h]; simp [IntOp.cmpi, beq_false_of_ne h]
  rw [e, e]
  by_cases h : a = b <;> by_cases h' : c = d <;> simp [IntOp.ori, h, h']

/-- The reference keeps a pair when the key's block and the query's block agree up to a multiple of four. -/
theorem refKept_apply (q : Fin 256) (j : Fin 32768) :
    val_main_v17 (F := Ideal) (ix2 q j) = 1#1 ↔ j.val / 64 % 4 = q.val / 64 := by
  pointwise [val_main_v17, val_main_v16, val_main_v15, val_main_v14, val_main_v11, val_main_v10, val_main_v9, val_main_v8,
    val_main_v5]
  rw [rowBlock_apply, colBlock_apply, colFour_apply, rowFour_apply, ori_cmpi_eq, small_word_eq (by omega) (by omega),
    small_word_eq (by omega) (by omega)]
  omega

/-- Every query keeps a key. -/
theorem rowKeep_apply (q : Fin 256) : val_main_v30 (F := Ideal) (ix1 q) = 1#1 := by
  pointwise [val_main_v30, val_main_c_5]
  rw [Routing.fold_ori]
  exact ⟨⟨q.val / 64 * 64, by omega⟩, Finset.mem_univ _, (refKept_apply q _).2 (by show q.val / 64 * 64 / 64 % 4 = q.val / 64; omega)⟩

end Cert.Butterfly

end
-- ==== Proof.RefValue.lean ====
/-
  The reference's result read element by element at the extended reals: the softmax over all 32768 keys, its largest
  score subtracted, and the output matrix.
-/
module

public import proofs.«01_k».proof.Proof.RefPattern
public import proofs.«01_k».proof.Proof.Attention

@[expose] public section

set_option maxRecDepth 16384

noncomputable section

namespace Cert.Butterfly

open Cert.ReferenceIdeal Cert.ReferenceIdeal.Gen Cert.ReferenceIdeal.Read
open Idealize.ShloMosaic
open Idealize.ShloMosaic.Pointwise

variable (x : Vec Ideal S1x256x1024 .bf16) (wq : Vec Ideal S1024x1024 .bf16) (k v : Vec Ideal S1x32768x8x128 .bf16)
  (wo : Vec Ideal S1024x1024 .bf16)

/-- The word of −∞. -/
theorem negInf : Ideal.ofBits .f32 0xFF800000#32 = (⊥ : EReal) := by
  simp [Ideal.ofBits, Ideal.ieee]

/-- A choice on a condition that holds. -/
theorem select_one {α : Type} (a b : α) : Scalar.select 1#1 a b = a := rfl

/-- The scores, -/
theorem refScore_apply (h : Fin 8) (q : Fin 256) (j : Fin 32768) :
    val_main_v24 (F := Ideal) x wq k (ix4 (0 : Fin 1) h q j) = score x wq k h q j := by
  pointwise [val_main_v24, val_main_call4_v0, val_main_call4_v1, val_main_call4_v2, val_main_cst_3, val_main_v23,
    val_main_v22, val_main_v21, val_main_v20, val_main_v19, val_main_v18, val_main_cst, val_main_v2, val_main_v1,
    val_main_v0]
  unfold score Scalar.select
  refine if_congr (refKept_apply q j) rfl ?_
  exact negInf
/-- the weights, -/
theorem refWeight_apply (h : Fin 8) (q : Fin 256) (j : Fin 32768) :
    val_main_v29 (F := Ideal) x wq k (ix4 (0 : Fin 1) h q j)
      = Ideal.exp (score x wq k h q j - Finset.univ.fold max (⊥ : EReal) (score x wq k h q)) := by
  pointwise [val_main_v29, val_main_v28, val_main_v27, val_main_v26, val_main_v25, val_main_cst_4]
  simp only [refScore_apply, negInf]
/-- their sum, -/
theorem refSum_apply (h : Fin 8) (q : Fin 256) :
    val_main_v34 (F := Ideal) x wq k (ix4 (0 : Fin 1) h q (0 : Fin 1))
      = ∑ i : Fin 32768, Ideal.exp (score x wq k h q i - Finset.univ.fold max (⊥ : EReal) (score x wq k h q)) := by
  have hc : val_main_call5_v1 (F := Ideal) (ix4 (0 : Fin 1) h q (0 : Fin 1)) = 1#1 := by
    pointwise [val_main_call5_v1, val_main_v31]
    exact rowKeep_apply q
  rw [val_main_v34_apply, hc, select_one]
  pointwise [val_main_v33, val_main_v32, val_main_cst_6]
  simp only [refWeight_apply]
/-- and the weights divided by it. -/
theorem refShare_apply (h : Fin 8) (q : Fin 256) (j : Fin 32768) :
    val_main_v38 (F := Ideal) x wq k (ix4 (0 : Fin 1) h q j)
      = Ideal.div (Ideal.exp (score x wq k h q j - Finset.univ.fold max (⊥ : EReal) (score x wq k h q)))
          (∑ i : Fin 32768, Ideal.exp (score x wq k h q i - Finset.univ.fold max (⊥ : EReal) (score x wq k h q))) := by
  have hc : val_main_call6_v1 (F := Ideal) (ix4 (0 : Fin 1) h q j) = 1#1 := by
    pointwise [val_main_call6_v1, val_main_v37]
    exact rowKeep_apply q
  have hs : val_main_v35 (F := Ideal) x wq k (ix4 (0 : Fin 1) h q j)
      = val_main_v34 (F := Ideal) x wq k (ix4 (0 : Fin 1) h q (0 : Fin 1)) := by
    pointwise [val_main_v35]
  rw [val_main_v38_apply, hc, select_one, val_main_v36_apply, hs, refWeight_apply, refSum_apply, Ideal.hostDivf_def]
/-- The reference's result, where the inputs of the scores are finite. -/
theorem refOut_apply (hx : ∀ i, ∃ r : ℝ, x i = (r : EReal)) (hwq : ∀ i, ∃ r : ℝ, wq i = (r : EReal))
    (hk : ∀ i, ∃ r : ℝ, k i = (r : EReal)) (q : Fin 256) (n : Fin 1024) :
    val_main_v42 (F := Ideal) x wq k v wo (ix3 (0 : Fin 1) q n)
      = ∑ c : Fin 1024, average x wq k v ⟨c.val / 128, by omega⟩ q ⟨c.val % 128, by omega⟩ * wo (ix2 c n) := by
  pointwise [val_main_v42, val_main_v41, val_main_v40, val_main_v39]
  simp only [refShare_apply, ← average_eq x wq k v hx hwq hk]

end Cert.Butterfly

end
-- ==== Proof.Algebraic.lean ====
/-
  The kernel and the reference compute the same result at the extended reals, where the inputs, the query matrix and the
  keys are finite.
-/
module

public import proofs.«01_k».proof.Defs
public import proofs.«01_k».proof.Proof.Gen.ReferenceIdeal.Run
public import proofs.«01_k».proof.Proof.Gen.Pre_finite_scores_KernelIdeal
public import proofs.«01_k».proof.Proof.KernelRun
public import proofs.«01_k».proof.Proof.Blocks
public import proofs.«01_k».proof.Proof.RefValue

@[expose] public section

set_option maxRecDepth 16384

noncomputable section

namespace Cert.Butterfly

open Idealize.ShloMosaic Idealize.ShloMosaic.TcCoe Idealize.SL.Sem
open Idealize.ShloMosaic.Pointwise

attribute [local instance] Cert.KernelIdeal.Gen.facts Cert.ReferenceIdeal.Gen.facts
  Cert.Pre_finite_scores_KernelIdeal.Gen.facts

/-! ## The precondition -/

/-- A number whose size is below +∞ is finite. -/
theorem finite_of_abs_lt {a : EReal}
    (h : FloatOps.cmpf (F := Ideal) (φ := .bf16) .olt (FloatOps.hostAbsf (F := Ideal) (φ := .bf16) a)
      (Ideal.ofBits .bf16 0x7F80#16) = 1#1) : ∃ r : ℝ, a = (r : EReal) := by
  have htop : Ideal.ofBits .bf16 0x7F80#16 = (⊤ : EReal) := by simp [Ideal.ofBits, Ideal.ieee]
  rw [htop] at h
  induction a using EReal.rec with
  | coe r => exact ⟨r, rfl⟩
  | _ => simp [FloatOps.cmpf, FloatOps.hostAbsf, Ideal.cmp] at h

section
open Cert.Pre_finite_scores_KernelIdeal

variable (x : Vec Ideal S1x256x1024 .bf16) (wq : Vec Ideal S1024x1024 .bf16) (k v : Vec Ideal S1x4096x8x128 .bf16)
  (wo : Vec Ideal S1024x1024 .bf16)

/-- Where the precondition holds, the inputs, -/
theorem finite_x (h : (fn (F := Ideal) x wq k v wo).1 = fun _ => 1#1) (i : S1x256x1024.Idx) : ∃ r : ℝ, x i = (r : EReal) :=
  finite_of_abs_lt (congrFun h i)
/-- the query matrix, -/
theorem finite_wq (h : (fn (F := Ideal) x wq k v wo).2.1 = fun _ => 1#1) (i : S1024x1024.Idx) : ∃ r : ℝ, wq i = (r : EReal) :=
  finite_of_abs_lt (congrFun h i)
/-- and a device's keys are finite. -/
theorem finite_k (h : (fn (F := Ideal) x wq k v wo).2.2 = fun _ => 1#1) (i : S1x4096x8x128.Idx) : ∃ r : ℝ, k i = (r : EReal) :=
  finite_of_abs_lt (congrFun h i)

end

/-! ## The runs -/

open Cert.KernelIdeal Cert.KernelIdeal.Gen in
/-- The kernel's run, from any memory: a device's result is what its body stores, and its arguments are kept. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h.1 c 5).trans (final_out m ρ c), (h.1 c 0).trans (finalA_in m ρ c 0 rfl),
    (h.1 c 1).trans (finalA_in m ρ c 1 rfl), (h.1 c 2).trans (finalA_in m ρ c 2 rfl), (h.1 c 3).trans (finalA_in m ρ c 3 rfl),
    (h.1 c 4).trans (finalA_in m ρ c 4 rfl)⟩) (run_main m ρ)

/-- From memories that hold the same arrays, the inputs of the scores finite, the kernel leaves the reference's result on
    every device, and both keep their arguments. -/
theorem algebraic : Cert.algebraic_KernelIdeal_ReferenceIdeal_pre_finite_scores_KernelIdeal := by
  intro m g m' g' hpre harg
  have hx := fun i => finite_x _ _ _ _ _ (hpre 0).1 i
  have hwq := fun i => finite_wq _ _ _ _ _ (hpre 0).2.1 i
  have hk := fun c i => finite_k _ _ _ _ _ (hpre c).2.2 i
  rw [(harg 0).1] at hx
  rw [(harg 0).2.1] at hwq
  have hK : ∀ i, ∃ r : ℝ, m' ((0 : Dev Cert.ReferenceIdeal.nD).tc.loc Cert.ReferenceIdeal.main_arg2) i = (r : EReal) := fun i => by
    obtain ⟨c, j, e⟩ := part_surj (m' ((0 : Dev Cert.ReferenceIdeal.nD).tc.loc Cert.ReferenceIdeal.main_arg2)) i
    obtain ⟨r, hr⟩ := hk c j
    rw [(harg c).2.2.1] at hr
    exact ⟨r, e.trans hr⟩
  refine ⟨Cert.ReferenceIdeal.Value.res_main_v42 m' 0, ?_, ?_⟩
  · refine (θ_run Cert.KernelIdeal.defs _ _).mono (fun r h c => ⟨(h c).1.trans ?_, (h c).2⟩) (run_value m g)
    refine (funext fun i => ?_).trans (Cert.ReferenceIdeal.Read.val_main_v42_eq m' 0).symm
    have hi : i = ix3 (0 : Fin 1) (i 1) (i 2) := by
      funext a
      fin_cases a
      · exact Subsingleton.elim (α := Fin 1) _ _
      · rfl
      · rfl
    rw [hi]
    refine (outAt_whole _ _ _ _ m g _ (fun c => (stg0_eq m g c).trans (harg c).1) (fun c => (stg1_eq m g c).trans (harg c).2.1)
      (fun c => (stg2_eq m g c).trans (harg c).2.2.1) (fun c => (stg3_eq m g c).trans (harg c).2.2.2.1)
      (fun c => (stg4_eq m g c).trans (harg c).2.2.2.2) c (i 1) (i 2)).trans ?_
    exact (refOut_apply _ _ _ _ _ hx hwq hK (i 1) (i 2)).symm
  · exact (θ_run Cert.ReferenceIdeal.defs _ _).mono (fun r h => h 0) (Cert.ReferenceIdeal.Value.run (F := Ideal) m' g')

end Cert.Butterfly

end
-- ==== Proof.lean ====
/-
  The proof of `Cert.Claim`: the kernel runs, on bits and at the extended reals, the reference runs, and the named
  constant is sanctioned, and the two compute the same at the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Reference
public import proofs.«01_k».proof.Proof.Algebraic
public import proofs.«01_k».proof.Proof.Gen.Pre_finite_scores_KernelIdeal
public import proofs.«01_k».proof.Proof.Gen.Pre_finite_scores_ReferenceIdeal

@[expose] public section

noncomputable section

namespace Cert.Proof

open Idealize.ShloMosaic

/-- The constant of the masked scores is named −∞ in the idealized kernel. -/
theorem preserves : Cert.preserves_Kernel_KernelIdeal :=
  IdealRules.named_const.statement Cert.KernelIdeal.κ "mask" .f32 0xF149F2CA#32 ⊥ rfl

/-- Everything the certificate claims. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    Cert.Butterfly.frame_kernel, Cert.Butterfly.frame_kernelIdeal, fun m ρ _ => Cert.Butterfly.frame_kernelIdeal m ρ trivial,
    Cert.Butterfly.frame_referenceIdeal, fun m ρ _ => Cert.Butterfly.frame_referenceIdeal m ρ trivial, preserves,
    Cert.Butterfly.algebraic⟩

end Cert.Proof

end
